-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S4x1024x4096 : Shape := ⟨3, ![4, 1024, 4096]⟩
abbrev S16x64x1024 : Shape := ⟨3, ![16, 64, 1024]⟩
abbrev S4x1024x256 : Shape := ⟨3, ![4, 1024, 256]⟩
abbrev S3x4x64x1024 : Shape := ⟨4, ![3, 4, 64, 1024]⟩
abbrev S4x64x1024 : Shape := ⟨3, ![4, 64, 1024]⟩
abbrev S2x64x1024 : Shape := ⟨3, ![2, 64, 1024]⟩
abbrev S3x2x64x1024 : Shape := ⟨4, ![3, 2, 64, 1024]⟩
abbrev S2 : Shape := ⟨1, ![2]⟩
abbrev S3 : Shape := ⟨1, ![3]⟩
abbrev S_ : Shape := ⟨0, ![]⟩
abbrev S1 : Shape := ⟨1, ![1]⟩
abbrev S256x1024 : Shape := ⟨2, ![256, 1024]⟩
abbrev S1x1024x256 : Shape := ⟨3, ![1, 1024, 256]⟩
abbrev S1024x256 : Shape := ⟨2, ![1024, 256]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1x4x64x1024 : Shape := ⟨4, ![1, 4, 64, 1024]⟩
abbrev S1x2x64x1024 : Shape := ⟨4, ![1, 2, 64, 1024]⟩

abbrev nBuf : Space → Nat
  | .hbm => 6
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S4x1024x4096, .f32⟩
  | .hbm, ⟨4, _⟩ => ⟨S4x1024x4096, .f32⟩
  | .hbm, ⟨5, _⟩ => ⟨S16x64x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S16x64x1024, .f32⟩
  | .local _ .vmem, ⟨4, _⟩ => ⟨S1024x1024, .bf16⟩
  | .local _ .vmem, ⟨5, _⟩ => ⟨S1024x1024, .bf16⟩
  | .local _ .vmem, ⟨6, _⟩ => ⟨S4x1024x256, .f32⟩
  | .local _ .vmem, ⟨7, _⟩ => ⟨S4x1024x256, .f32⟩
  | .local _ .vmem, ⟨8, _⟩ => ⟨S3x4x64x1024, .bf16⟩
  | .local _ .vmem, ⟨9, _⟩ => ⟨S4x64x1024, .bf16⟩
  | .local _ .vmem, ⟨10, _⟩ => ⟨S3x4x64x1024, .bf16⟩
  | .local _ .vmem, ⟨11, _⟩ => ⟨S4x64x1024, .bf16⟩
  | .local _ .vmem, ⟨12, _⟩ => ⟨S4x64x1024, .bf16⟩
  | .local _ .vmem, ⟨13, _⟩ => ⟨S2x64x1024, .bf16⟩
  | .local _ .vmem, ⟨14, _⟩ => ⟨S2x64x1024, .bf16⟩
  | .local _ .vmem, ⟨15, _⟩ => ⟨S3x2x64x1024, .bf16⟩
  | .local _ .vmem, ⟨16, _⟩ => ⟨S3x2x64x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_i32_49 : BitVec 32 := 0#32
  let c0_i32_50 : BitVec 32 := 0#32
  let c256_i32 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v99 : BitVec 32 := Scalar.muli c256_i32 v2
  ![0, 0, v99.toNat]
def k0_dev1 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_37 : BitVec 32 := 4#32
  let v80 : BitVec 32 := Scalar.muli v19 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v81 : BitVec 32 := Scalar.addi v29 c3_i32
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v81 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let v92 : BitVec 32 := Scalar.addi v80 v91
  let c1_i32_62 : BitVec 32 := 1#32
  let v120 : BitVec 32 := Scalar.muli v92 c1_i32_62
  let v121 : BitVec 32 := Scalar.addi c0_i32_63 v120
  v121.toNat
def k0_dev2 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_65 : BitVec 32 := 1#32
  let v122 : BitVec 32 := Scalar.muli v79 c1_i32_65
  let v123 : BitVec 32 := Scalar.addi c0_i32_66 v122
  v123.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_44 : BitVec 32 := 4#32
  let v93 : BitVec 32 := Scalar.addi v2 c4_i32_44
  let c8_i32 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v19 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v94 : BitVec 32 := Scalar.muli c8_i32 v39
  let v95 : BitVec 32 := Scalar.subi v93 v94
  let c1_i32_68 : BitVec 32 := 1#32
  let v124 : BitVec 32 := Scalar.muli v95 c1_i32_68
  let v125 : BitVec 32 := Scalar.addi c0_i32_69 v124
  v125.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_45 : BitVec 32 := 8#32
  let v96 : BitVec 32 := Scalar.addi v2 c8_i32_45
  let c16_i32_46 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_17 : BitVec 32 := 0#32
  let v41 : BitVec 1 := Scalar.cmpi .sgt v19 c0_i32_17
  let v42 : BitVec 32 := Scalar.extui v41
  let c0_i32_18 : BitVec 32 := 0#32
  let v43 : BitVec 1 := Scalar.cmpi .slt v19 c0_i32_18
  let v44 : BitVec 32 := Scalar.extui v43
  let v45 : BitVec 32 := Scalar.subi v42 v44
  let c2_i32_16 : BitVec 32 := 2#32
  let c0_i32_19 : BitVec 32 := 0#32
  let v46 : BitVec 1 := Scalar.cmpi .sgt c2_i32_16 c0_i32_19
  let v47 : BitVec 32 := Scalar.extui v46
  let c0_i32_20 : BitVec 32 := 0#32
  let v48 : BitVec 1 := Scalar.cmpi .slt c2_i32_16 c0_i32_20
  let v49 : BitVec 32 := Scalar.extui v48
  let v50 : BitVec 32 := Scalar.subi v47 v49
  let v51 : BitVec 1 := Scalar.cmpi .ne v45 v50
  let v52 : BitVec 32 := Scalar.remsi v19 c2_i32_16
  let c0_i32_21 : BitVec 32 := 0#32
  let v53 : BitVec 1 := Scalar.cmpi .ne v52 c0_i32_21
  let v54 : BitVec 1 := Scalar.andi v51 v53
  let v40 : BitVec 32 := Scalar.divsi v19 c2_i32_16
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v97 : BitVec 32 := Scalar.muli c16_i32_46 v66
  let v98 : BitVec 32 := Scalar.subi v96 v97
  let c1_i32_71 : BitVec 32 := 1#32
  let v126 : BitVec 32 := Scalar.muli v98 c1_i32_71
  let v127 : BitVec 32 := Scalar.addi c0_i32_72 v126
  v127.toNat
def k0_off2 (d0 : Dev nD) : Fin 2 → Nat :=
  let c256_i32_80 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v134 : BitVec 32 := Scalar.muli c256_i32_80 v29
  let v135 : Index := Scalar.indexCast v134
  let c0_81 : Index := 0#32
  ![v135.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v141 : Index := Scalar.indexCast v29
  let c0_84 : Index := 0#32
  let c0_85 : Index := 0#32
  ![v141.toNat, 0, 0]
def k0_off4 (d0 : Dev nD) : Fin 3 → Nat :=
  let c4_i32_131 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v298 : BitVec 32 := Scalar.muli c4_i32_131 v29
  let v299 : Index := Scalar.indexCast v298
  let c0_132 : Index := 0#32
  let c0_133 : Index := 0#32
  ![v299.toNat, 0, 0]
def k0_off5 (d0 : Dev nD) (c0_i32_134 : BitVec 32) : Fin 3 → Nat :=
  let c4_i32_142 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v301 : BitVec 32 := Scalar.subi v29 c0_i32_134
  let c4_i32_135 : BitVec 32 := 4#32
  let v302 : BitVec 32 := Scalar.addi v301 c4_i32_135
  let c4_i32_136 : BitVec 32 := 4#32
  let c0_i32_137 : BitVec 32 := 0#32
  let v303 : BitVec 1 := Scalar.cmpi .eq c4_i32_136 c0_i32_137
  let c1_i32_138 : BitVec 32 := 1#32
  let v304 : BitVec 32 := Scalar.select v303 c1_i32_138 c4_i32_136
  let v305 : BitVec 32 := Scalar.remsi v302 v304
  let c0_i32_140 : BitVec 32 := 0#32
  let v307 : BitVec 1 := Scalar.cmpi .slt v305 c0_i32_140
  let c0_i32_141 : BitVec 32 := 0#32
  let v308 : BitVec 1 := Scalar.cmpi .slt v304 c0_i32_141
  let v309 : BitVec 1 := Scalar.xori v307 v308
  let c0_i32_139 : BitVec 32 := 0#32
  let v306 : BitVec 1 := Scalar.cmpi .ne v305 c0_i32_139
  let v310 : BitVec 1 := Scalar.andi v309 v306
  let v311 : BitVec 32 := Scalar.addi v305 v304
  let v312 : BitVec 32 := Scalar.select v310 v311 v305
  let v313 : BitVec 32 := Scalar.muli c4_i32_142 v312
  let v314 : Index := Scalar.indexCast v313
  let c0_143 : Index := 0#32
  let c0_144 : Index := 0#32
  ![v314.toNat, 0, 0]
def k0_dev5 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_153 : BitVec 32 := 1#32
  let v321 : BitVec 32 := Scalar.muli v79 c1_i32_153
  let v322 : BitVec 32 := Scalar.addi c0_i32_154 v321
  v322.toNat
def k0_off6 (d0 : Dev nD) (c0_i32_162 : BitVec 32) : Fin 2 → Nat :=
  let c256_i32_170 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_161 : BitVec 32 := 1#32
  let v331 : BitVec 32 := Scalar.subi v29 c1_i32_161
  let v332 : BitVec 32 := Scalar.subi v331 c0_i32_162
  let c4_i32_163 : BitVec 32 := 4#32
  let v333 : BitVec 32 := Scalar.addi v332 c4_i32_163
  let c4_i32_164 : BitVec 32 := 4#32
  let c0_i32_165 : BitVec 32 := 0#32
  let v334 : BitVec 1 := Scalar.cmpi .eq c4_i32_164 c0_i32_165
  let c1_i32_166 : BitVec 32 := 1#32
  let v335 : BitVec 32 := Scalar.select v334 c1_i32_166 c4_i32_164
  let v336 : BitVec 32 := Scalar.remsi v333 v335
  let c0_i32_168 : BitVec 32 := 0#32
  let v338 : BitVec 1 := Scalar.cmpi .slt v336 c0_i32_168
  let c0_i32_169 : BitVec 32 := 0#32
  let v339 : BitVec 1 := Scalar.cmpi .slt v335 c0_i32_169
  let v340 : BitVec 1 := Scalar.xori v338 v339
  let c0_i32_167 : BitVec 32 := 0#32
  let v337 : BitVec 1 := Scalar.cmpi .ne v336 c0_i32_167
  let v341 : BitVec 1 := Scalar.andi v340 v337
  let v342 : BitVec 32 := Scalar.addi v336 v335
  let v343 : BitVec 32 := Scalar.select v341 v342 v336
  let v344 : BitVec 32 := Scalar.muli c256_i32_170 v343
  let v345 : Index := Scalar.indexCast v344
  let c0_171 : Index := 0#32
  ![v345.toNat, 0]
def k0_off7 (d0 : Dev nD) (c0_i32_162 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_161 : BitVec 32 := 1#32
  let v331 : BitVec 32 := Scalar.subi v29 c1_i32_161
  let v332 : BitVec 32 := Scalar.subi v331 c0_i32_162
  let c4_i32_163 : BitVec 32 := 4#32
  let v333 : BitVec 32 := Scalar.addi v332 c4_i32_163
  let c4_i32_164 : BitVec 32 := 4#32
  let c0_i32_165 : BitVec 32 := 0#32
  let v334 : BitVec 1 := Scalar.cmpi .eq c4_i32_164 c0_i32_165
  let c1_i32_166 : BitVec 32 := 1#32
  let v335 : BitVec 32 := Scalar.select v334 c1_i32_166 c4_i32_164
  let v336 : BitVec 32 := Scalar.remsi v333 v335
  let c0_i32_168 : BitVec 32 := 0#32
  let v338 : BitVec 1 := Scalar.cmpi .slt v336 c0_i32_168
  let c0_i32_169 : BitVec 32 := 0#32
  let v339 : BitVec 1 := Scalar.cmpi .slt v335 c0_i32_169
  let v340 : BitVec 1 := Scalar.xori v338 v339
  let c0_i32_167 : BitVec 32 := 0#32
  let v337 : BitVec 1 := Scalar.cmpi .ne v336 c0_i32_167
  let v341 : BitVec 1 := Scalar.andi v340 v337
  let v342 : BitVec 32 := Scalar.addi v336 v335
  let v343 : BitVec 32 := Scalar.select v341 v342 v336
  let v351 : Index := Scalar.indexCast v343
  let c0_175 : Index := 0#32
  let c0_176 : Index := 0#32
  ![v351.toNat, 0, 0]
def k0_off8 (d0 : Dev nD) (c0_i32_162 : BitVec 32) : Fin 3 → Nat :=
  let c4_i32_222 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_161 : BitVec 32 := 1#32
  let v331 : BitVec 32 := Scalar.subi v29 c1_i32_161
  let v332 : BitVec 32 := Scalar.subi v331 c0_i32_162
  let c4_i32_163 : BitVec 32 := 4#32
  let v333 : BitVec 32 := Scalar.addi v332 c4_i32_163
  let c4_i32_164 : BitVec 32 := 4#32
  let c0_i32_165 : BitVec 32 := 0#32
  let v334 : BitVec 1 := Scalar.cmpi .eq c4_i32_164 c0_i32_165
  let c1_i32_166 : BitVec 32 := 1#32
  let v335 : BitVec 32 := Scalar.select v334 c1_i32_166 c4_i32_164
  let v336 : BitVec 32 := Scalar.remsi v333 v335
  let c0_i32_168 : BitVec 32 := 0#32
  let v338 : BitVec 1 := Scalar.cmpi .slt v336 c0_i32_168
  let c0_i32_169 : BitVec 32 := 0#32
  let v339 : BitVec 1 := Scalar.cmpi .slt v335 c0_i32_169
  let v340 : BitVec 1 := Scalar.xori v338 v339
  let c0_i32_167 : BitVec 32 := 0#32
  let v337 : BitVec 1 := Scalar.cmpi .ne v336 c0_i32_167
  let v341 : BitVec 1 := Scalar.andi v340 v337
  let v342 : BitVec 32 := Scalar.addi v336 v335
  let v343 : BitVec 32 := Scalar.select v341 v342 v336
  let v508 : BitVec 32 := Scalar.muli c4_i32_222 v343
  let v509 : Index := Scalar.indexCast v508
  let c0_223 : Index := 0#32
  let c0_224 : Index := 0#32
  ![v509.toNat, 0, 0]
def k0_dev6 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_265 : BitVec 32 := 1#32
  let v550 : BitVec 32 := Scalar.muli v79 c1_i32_265
  let v551 : BitVec 32 := Scalar.addi c0_i32_266 v550
  v551.toNat
def k0_dev7 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_377 : BitVec 32 := 1#32
  let v779 : BitVec 32 := Scalar.muli v79 c1_i32_377
  let v780 : BitVec 32 := Scalar.addi c0_i32_378 v779
  v780.toNat
def k0_off9 (d0 : Dev nD) : Fin 3 → Nat :=
  let c4_i32_511 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_504 : BitVec 32 := 1#32
  let v1006 : BitVec 32 := Scalar.addi v29 c1_i32_504
  let c4_i32_505 : BitVec 32 := 4#32
  let c0_i32_506 : BitVec 32 := 0#32
  let v1007 : BitVec 1 := Scalar.cmpi .eq c4_i32_505 c0_i32_506
  let c1_i32_507 : BitVec 32 := 1#32
  let v1008 : BitVec 32 := Scalar.select v1007 c1_i32_507 c4_i32_505
  let v1009 : BitVec 32 := Scalar.remsi v1006 v1008
  let c0_i32_509 : BitVec 32 := 0#32
  let v1011 : BitVec 1 := Scalar.cmpi .slt v1009 c0_i32_509
  let c0_i32_510 : BitVec 32 := 0#32
  let v1012 : BitVec 1 := Scalar.cmpi .slt v1008 c0_i32_510
  let v1013 : BitVec 1 := Scalar.xori v1011 v1012
  let c0_i32_508 : BitVec 32 := 0#32
  let v1010 : BitVec 1 := Scalar.cmpi .ne v1009 c0_i32_508
  let v1014 : BitVec 1 := Scalar.andi v1013 v1010
  let v1015 : BitVec 32 := Scalar.addi v1009 v1008
  let v1016 : BitVec 32 := Scalar.select v1014 v1015 v1009
  let v1017 : BitVec 32 := Scalar.muli c4_i32_511 v1016
  let v1018 : Index := Scalar.indexCast v1017
  let c0_512 : Index := 0#32
  let c0_513 : Index := 0#32
  ![v1018.toNat, 0, 0]
def k0_dev8 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_44 : BitVec 32 := 4#32
  let v93 : BitVec 32 := Scalar.addi v2 c4_i32_44
  let c8_i32 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v19 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v94 : BitVec 32 := Scalar.muli c8_i32 v39
  let v95 : BitVec 32 := Scalar.subi v93 v94
  let c1_i32_518 : BitVec 32 := 1#32
  let v1025 : BitVec 32 := Scalar.muli v95 c1_i32_518
  let v1026 : BitVec 32 := Scalar.addi c0_i32_519 v1025
  v1026.toNat
def k0_dev9 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_45 : BitVec 32 := 8#32
  let v96 : BitVec 32 := Scalar.addi v2 c8_i32_45
  let c16_i32_46 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_17 : BitVec 32 := 0#32
  let v41 : BitVec 1 := Scalar.cmpi .sgt v19 c0_i32_17
  let v42 : BitVec 32 := Scalar.extui v41
  let c0_i32_18 : BitVec 32 := 0#32
  let v43 : BitVec 1 := Scalar.cmpi .slt v19 c0_i32_18
  let v44 : BitVec 32 := Scalar.extui v43
  let v45 : BitVec 32 := Scalar.subi v42 v44
  let c2_i32_16 : BitVec 32 := 2#32
  let c0_i32_19 : BitVec 32 := 0#32
  let v46 : BitVec 1 := Scalar.cmpi .sgt c2_i32_16 c0_i32_19
  let v47 : BitVec 32 := Scalar.extui v46
  let c0_i32_20 : BitVec 32 := 0#32
  let v48 : BitVec 1 := Scalar.cmpi .slt c2_i32_16 c0_i32_20
  let v49 : BitVec 32 := Scalar.extui v48
  let v50 : BitVec 32 := Scalar.subi v47 v49
  let v51 : BitVec 1 := Scalar.cmpi .ne v45 v50
  let v52 : BitVec 32 := Scalar.remsi v19 c2_i32_16
  let c0_i32_21 : BitVec 32 := 0#32
  let v53 : BitVec 1 := Scalar.cmpi .ne v52 c0_i32_21
  let v54 : BitVec 1 := Scalar.andi v51 v53
  let v40 : BitVec 32 := Scalar.divsi v19 c2_i32_16
  let c1_i32_22 : BitVec 32 := 1#32
  let v55 : BitVec 32 := Scalar.subi v40 c1_i32_22
  let v56 : BitVec 32 := Scalar.select v54 v55 v40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v56 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v97 : BitVec 32 := Scalar.muli c16_i32_46 v66
  let v98 : BitVec 32 := Scalar.subi v96 v97
  let c1_i32_538 : BitVec 32 := 1#32
  let v1048 : BitVec 32 := Scalar.muli v98 c1_i32_538
  let v1049 : BitVec 32 := Scalar.addi c0_i32_539 v1048
  v1049.toNat
def k0_off10 (d0 : Dev nD) : Fin 3 → Nat :=
  let c4_i32_511 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_504 : BitVec 32 := 1#32
  let v1006 : BitVec 32 := Scalar.addi v29 c1_i32_504
  let c4_i32_505 : BitVec 32 := 4#32
  let c0_i32_506 : BitVec 32 := 0#32
  let v1007 : BitVec 1 := Scalar.cmpi .eq c4_i32_505 c0_i32_506
  let c1_i32_507 : BitVec 32 := 1#32
  let v1008 : BitVec 32 := Scalar.select v1007 c1_i32_507 c4_i32_505
  let v1009 : BitVec 32 := Scalar.remsi v1006 v1008
  let c0_i32_509 : BitVec 32 := 0#32
  let v1011 : BitVec 1 := Scalar.cmpi .slt v1009 c0_i32_509
  let c0_i32_510 : BitVec 32 := 0#32
  let v1012 : BitVec 1 := Scalar.cmpi .slt v1008 c0_i32_510
  let v1013 : BitVec 1 := Scalar.xori v1011 v1012
  let c0_i32_508 : BitVec 32 := 0#32
  let v1010 : BitVec 1 := Scalar.cmpi .ne v1009 c0_i32_508
  let v1014 : BitVec 1 := Scalar.andi v1013 v1010
  let v1015 : BitVec 32 := Scalar.addi v1009 v1008
  let v1016 : BitVec 32 := Scalar.select v1014 v1015 v1009
  let v1017 : BitVec 32 := Scalar.muli c4_i32_511 v1016
  let v1064 : Index := Scalar.indexCast v1017
  let c0_552 : Index := 0#32
  let c0_553 : Index := 0#32
  ![v1064.toNat, 0, 0]
def k0_off11 (d0 : Dev nD) : Fin 3 → Nat :=
  let c4_i32_511 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_504 : BitVec 32 := 1#32
  let v1006 : BitVec 32 := Scalar.addi v29 c1_i32_504
  let c4_i32_505 : BitVec 32 := 4#32
  let c0_i32_506 : BitVec 32 := 0#32
  let v1007 : BitVec 1 := Scalar.cmpi .eq c4_i32_505 c0_i32_506
  let c1_i32_507 : BitVec 32 := 1#32
  let v1008 : BitVec 32 := Scalar.select v1007 c1_i32_507 c4_i32_505
  let v1009 : BitVec 32 := Scalar.remsi v1006 v1008
  let c0_i32_509 : BitVec 32 := 0#32
  let v1011 : BitVec 1 := Scalar.cmpi .slt v1009 c0_i32_509
  let c0_i32_510 : BitVec 32 := 0#32
  let v1012 : BitVec 1 := Scalar.cmpi .slt v1008 c0_i32_510
  let v1013 : BitVec 1 := Scalar.xori v1011 v1012
  let c0_i32_508 : BitVec 32 := 0#32
  let v1010 : BitVec 1 := Scalar.cmpi .ne v1009 c0_i32_508
  let v1014 : BitVec 1 := Scalar.andi v1013 v1010
  let v1015 : BitVec 32 := Scalar.addi v1009 v1008
  let v1016 : BitVec 32 := Scalar.select v1014 v1015 v1009
  let v1017 : BitVec 32 := Scalar.muli c4_i32_511 v1016
  let c2_i32_557 : BitVec 32 := 2#32
  let v1071 : BitVec 32 := Scalar.addi v1017 c2_i32_557
  let v1072 : Index := Scalar.indexCast v1071
  let c0_558 : Index := 0#32
  let c0_559 : Index := 0#32
  ![v1072.toNat, 0, 0]
def k0_dev10 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_566 : BitVec 32 := 1#32
  let v1079 : BitVec 32 := Scalar.muli v79 c1_i32_566
  let v1080 : BitVec 32 := Scalar.addi c0_i32_567 v1079
  v1080.toNat
def k0_dev11 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_37 : BitVec 32 := 4#32
  let v80 : BitVec 32 := Scalar.muli v19 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v81 : BitVec 32 := Scalar.addi v29 c3_i32
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v81 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let v92 : BitVec 32 := Scalar.addi v80 v91
  let c1_i32_574 : BitVec 32 := 1#32
  let v1087 : BitVec 32 := Scalar.muli v92 c1_i32_574
  let v1088 : BitVec 32 := Scalar.addi c0_i32_575 v1087
  v1088.toNat
def k0_dev12 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_599 : BitVec 32 := 1#32
  let v1107 : BitVec 32 := Scalar.muli v79 c1_i32_599
  let v1108 : BitVec 32 := Scalar.addi c0_i32_600 v1107
  v1108.toNat
def k0_dev13 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_37 : BitVec 32 := 4#32
  let v80 : BitVec 32 := Scalar.muli v19 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v81 : BitVec 32 := Scalar.addi v29 c3_i32
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v81 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let v92 : BitVec 32 := Scalar.addi v80 v91
  let c1_i32_611 : BitVec 32 := 1#32
  let v1117 : BitVec 32 := Scalar.muli v92 c1_i32_611
  let v1118 : BitVec 32 := Scalar.addi c0_i32_612 v1117
  v1118.toNat
def k0_off12 (d0 : Dev nD) (c0_i32_619 : BitVec 32) : Fin 3 → Nat :=
  let c4_i32_631 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1127 : BitVec 32 := Scalar.subi v29 c0_i32_619
  let c4_i32_620 : BitVec 32 := 4#32
  let v1128 : BitVec 32 := Scalar.addi v1127 c4_i32_620
  let c4_i32_621 : BitVec 32 := 4#32
  let c0_i32_622 : BitVec 32 := 0#32
  let v1129 : BitVec 1 := Scalar.cmpi .eq c4_i32_621 c0_i32_622
  let c1_i32_623 : BitVec 32 := 1#32
  let v1130 : BitVec 32 := Scalar.select v1129 c1_i32_623 c4_i32_621
  let v1131 : BitVec 32 := Scalar.remsi v1128 v1130
  let c0_i32_625 : BitVec 32 := 0#32
  let v1133 : BitVec 1 := Scalar.cmpi .slt v1131 c0_i32_625
  let c0_i32_626 : BitVec 32 := 0#32
  let v1134 : BitVec 1 := Scalar.cmpi .slt v1130 c0_i32_626
  let v1135 : BitVec 1 := Scalar.xori v1133 v1134
  let c0_i32_624 : BitVec 32 := 0#32
  let v1132 : BitVec 1 := Scalar.cmpi .ne v1131 c0_i32_624
  let v1136 : BitVec 1 := Scalar.andi v1135 v1132
  let v1137 : BitVec 32 := Scalar.addi v1131 v1130
  let v1138 : BitVec 32 := Scalar.select v1136 v1137 v1131
  let v1142 : BitVec 32 := Scalar.muli c4_i32_631 v1138
  let v1143 : Index := Scalar.indexCast v1142
  let c0_632 : Index := 0#32
  let c0_633 : Index := 0#32
  ![v1143.toNat, 0, 0]
def k0_off13 (d0 : Dev nD) (c0_i32_635 : BitVec 32) : Fin 3 → Nat :=
  let c4_i32_646 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_634 : BitVec 32 := 2#32
  let v1145 : BitVec 32 := Scalar.addi v29 c2_i32_634
  let v1146 : BitVec 32 := Scalar.addi v1145 c0_i32_635
  let c4_i32_636 : BitVec 32 := 4#32
  let c0_i32_637 : BitVec 32 := 0#32
  let v1147 : BitVec 1 := Scalar.cmpi .eq c4_i32_636 c0_i32_637
  let c1_i32_638 : BitVec 32 := 1#32
  let v1148 : BitVec 32 := Scalar.select v1147 c1_i32_638 c4_i32_636
  let v1149 : BitVec 32 := Scalar.remsi v1146 v1148
  let c0_i32_640 : BitVec 32 := 0#32
  let v1151 : BitVec 1 := Scalar.cmpi .slt v1149 c0_i32_640
  let c0_i32_641 : BitVec 32 := 0#32
  let v1152 : BitVec 1 := Scalar.cmpi .slt v1148 c0_i32_641
  let v1153 : BitVec 1 := Scalar.xori v1151 v1152
  let c0_i32_639 : BitVec 32 := 0#32
  let v1150 : BitVec 1 := Scalar.cmpi .ne v1149 c0_i32_639
  let v1154 : BitVec 1 := Scalar.andi v1153 v1150
  let v1155 : BitVec 32 := Scalar.addi v1149 v1148
  let v1156 : BitVec 32 := Scalar.select v1154 v1155 v1149
  let v1160 : BitVec 32 := Scalar.muli c4_i32_646 v1156
  let c2_i32_647 : BitVec 32 := 2#32
  let v1161 : BitVec 32 := Scalar.addi v1160 c2_i32_647
  let v1162 : Index := Scalar.indexCast v1161
  let c0_648 : Index := 0#32
  let c0_649 : Index := 0#32
  ![v1162.toNat, 0, 0]
def k0_dev14 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_29 : BitVec 32 := 4#32
  let v67 : BitVec 32 := Scalar.muli v19 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_30 : BitVec 32 := 1#32
  let v68 : BitVec 32 := Scalar.addi v29 c1_i32_30
  let c4_i32_31 : BitVec 32 := 4#32
  let c0_i32_32 : BitVec 32 := 0#32
  let v69 : BitVec 1 := Scalar.cmpi .eq c4_i32_31 c0_i32_32
  let c1_i32_33 : BitVec 32 := 1#32
  let v70 : BitVec 32 := Scalar.select v69 c1_i32_33 c4_i32_31
  let v71 : BitVec 32 := Scalar.remsi v68 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let v79 : BitVec 32 := Scalar.addi v67 v78
  let c1_i32_678 : BitVec 32 := 1#32
  let v1180 : BitVec 32 := Scalar.muli v79 c1_i32_678
  let v1181 : BitVec 32 := Scalar.addi c0_i32_679 v1180
  v1181.toNat
def k0_dev15 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_37 : BitVec 32 := 4#32
  let v80 : BitVec 32 := Scalar.muli v19 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v81 : BitVec 32 := Scalar.addi v29 c3_i32
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v81 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let v92 : BitVec 32 := Scalar.addi v80 v91
  let c1_i32_690 : BitVec 32 := 1#32
  let v1190 : BitVec 32 := Scalar.muli v92 c1_i32_690
  let v1191 : BitVec 32 := Scalar.addi c0_i32_691 v1190
  v1191.toNat
def k0_off14 (d0 : Dev nD) : Fin 3 → Nat :=
  let c4_i32_778 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_772 : BitVec 32 := 4#32
  let c0_i32_773 : BitVec 32 := 0#32
  let v1274 : BitVec 1 := Scalar.cmpi .eq c4_i32_772 c0_i32_773
  let c1_i32_774 : BitVec 32 := 1#32
  let v1275 : BitVec 32 := Scalar.select v1274 c1_i32_774 c4_i32_772
  let v1276 : BitVec 32 := Scalar.remsi v29 v1275
  let c0_i32_776 : BitVec 32 := 0#32
  let v1278 : BitVec 1 := Scalar.cmpi .slt v1276 c0_i32_776
  let c0_i32_777 : BitVec 32 := 0#32
  let v1279 : BitVec 1 := Scalar.cmpi .slt v1275 c0_i32_777
  let v1280 : BitVec 1 := Scalar.xori v1278 v1279
  let c0_i32_775 : BitVec 32 := 0#32
  let v1277 : BitVec 1 := Scalar.cmpi .ne v1276 c0_i32_775
  let v1281 : BitVec 1 := Scalar.andi v1280 v1277
  let v1282 : BitVec 32 := Scalar.addi v1276 v1275
  let v1283 : BitVec 32 := Scalar.select v1281 v1282 v1276
  let v1284 : BitVec 32 := Scalar.muli c4_i32_778 v1283
  let c2_i32_779 : BitVec 32 := 2#32
  let v1285 : BitVec 32 := Scalar.addi v1284 c2_i32_779
  let v1286 : Index := Scalar.indexCast v1285
  let c0_780 : Index := 0#32
  let c0_781 : Index := 0#32
  ![v1286.toNat, 0, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S4x1024x4096 : Shape := ⟨3, ![4, 1024, 4096]⟩
abbrev S4x256x1024 : Shape := ⟨3, ![4, 256, 1024]⟩
abbrev S4x1024x32x128 : Shape := ⟨4, ![4, 1024, 32, 128]⟩
abbrev S4x256x16384 : Shape := ⟨3, ![4, 256, 16384]⟩
abbrev S4x256x128x128 : Shape := ⟨4, ![4, 256, 128, 128]⟩
abbrev S4x1024x32x4x128 : Shape := ⟨5, ![4, 1024, 32, 4, 128]⟩
abbrev S4x1024x128x128 : Shape := ⟨4, ![4, 1024, 128, 128]⟩
abbrev S_ : Shape := ⟨0, ![]⟩
abbrev S4x128x256x1 : Shape := ⟨4, ![4, 128, 256, 1]⟩
abbrev S4x128x256x1024 : Shape := ⟨4, ![4, 128, 256, 1024]⟩
abbrev S4x128x256 : Shape := ⟨3, ![4, 128, 256]⟩
abbrev S4x256x128x1 : Shape := ⟨4, ![4, 256, 128, 1]⟩
abbrev S4x128x128x256 : Shape := ⟨4, ![4, 128, 128, 256]⟩
abbrev S16x64x1024 : Shape := ⟨3, ![16, 64, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S16384x1024, .f32⟩
  | .hbm, ⟨3, _⟩ => ⟨S4x1024x4096, .f32⟩
  | .hbm, ⟨4, _⟩ => ⟨S4x1024x4096, .f32⟩
  | .hbm, ⟨5, _⟩ => ⟨S4x256x1024, .f32⟩
  | .hbm, ⟨6, _⟩ => ⟨S4x1024x32x128, .f32⟩
  | .hbm, ⟨7, _⟩ => ⟨S4x1024x32x128, .f32⟩
  | .hbm, ⟨8, _⟩ => ⟨S4x256x16384, .f32⟩
  | .hbm, ⟨9, _⟩ => ⟨S4x256x128x128, .f32⟩
  | .hbm, ⟨10, _⟩ => ⟨S4x1024x32x4x128, .f32⟩
  | .hbm, ⟨11, _⟩ => ⟨S4x1024x128x128, .f32⟩
  | .hbm, ⟨12, _⟩ => ⟨S4x1024x32x4x128, .f32⟩
  | .hbm, ⟨13, _⟩ => ⟨S4x1024x128x128, .f32⟩
  | .hbm, ⟨14, _⟩ => ⟨S_, .f32⟩
  | .hbm, ⟨15, _⟩ => ⟨S4x256x128x128, .f32⟩
  | .hbm, ⟨16, _⟩ => ⟨S_, .f32⟩
  | .hbm, ⟨17, _⟩ => ⟨S4x128x256x1, .f32⟩
  | .hbm, ⟨18, _⟩ => ⟨S_, .f32⟩
  | .hbm, ⟨19, _⟩ => ⟨S4x128x256x1, .f32⟩
  | .hbm, ⟨20, _⟩ => ⟨S4x128x256x1024, .f32⟩
  | .hbm, ⟨21, _⟩ => ⟨S_, .f32⟩
  | .hbm, ⟨22, _⟩ => ⟨S4x128x256x1024, .f32⟩
  | .hbm, ⟨23, _⟩ => ⟨S4x128x256x1024, .f32⟩
  | .hbm, ⟨24, _⟩ => ⟨S_, .f32⟩
  | .hbm, ⟨25, _⟩ => ⟨S4x128x256, .f32⟩
  | .hbm, ⟨26, _⟩ => ⟨S4x128x256x1, .f32⟩
  | .hbm, ⟨27, _⟩ => ⟨S4x128x256x1, .f32⟩
  | .hbm, ⟨28, _⟩ => ⟨S4x128x256x1, .f32⟩
  | .hbm, ⟨29, _⟩ => ⟨S4x128x256x1, .f32⟩
  | .hbm, ⟨30, _⟩ => ⟨S4x128x256x1024, .f32⟩
  | .hbm, ⟨31, _⟩ => ⟨S4x128x256x1024, .f32⟩
  | .hbm, ⟨32, _⟩ => ⟨S4x128x256x1024, .f32⟩
  | .hbm, ⟨33, _⟩ => ⟨S4x128x256x1, .f32⟩
  | .hbm, ⟨34, _⟩ => ⟨S_, .f32⟩
  | .hbm, ⟨35, _⟩ => ⟨S4x128x256, .f32⟩
  | .hbm, ⟨36, _⟩ => ⟨S4x128x256x1, .f32⟩
  | .hbm, ⟨37, _⟩ => ⟨S4x128x256x1, .f32⟩
  | .hbm, ⟨38, _⟩ => ⟨S4x256x128x1, .f32⟩
  | .hbm, ⟨39, _⟩ => ⟨S4x256x128x128, .f32⟩
  | .hbm, ⟨40, _⟩ => ⟨S4x256x128x128, .f32⟩
  | .hbm, ⟨41, _⟩ => ⟨S4x128x128x256, .f32⟩
  | .hbm, ⟨42, _⟩ => ⟨S4x256x128x128, .f32⟩
  | .hbm, ⟨43, _⟩ => ⟨S4x256x128x128, .f32⟩
  | .hbm, ⟨44, _⟩ => ⟨S4x256x128x1, .f32⟩
  | .hbm, ⟨45, _⟩ => ⟨S4x256x128x128, .f32⟩
  | .hbm, ⟨46, _⟩ => ⟨S4x256x128x128, .f32⟩
  | .hbm, ⟨47, _⟩ => ⟨S4x256x16384, .f32⟩
  | .hbm, ⟨48, _⟩ => ⟨S4x256x1024, .f32⟩
  | .hbm, ⟨49, _⟩ => ⟨S16x64x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Mesh.lean ====
/- The mesh and the cells of the sixteen-device kernel: each device's neighbours, the closed forms of the kernel's own
   offset and device-id chains, and the twenty-four semaphore cells of one device with the credit each expects. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Mesh

open Cert.KernelIdeal Cert.KernelIdeal.Gen
open Idealize.ShloMosaic Idealize.ShloMosaic.TcCoe

/-! ## Neighbours -/

set_option backward.proofsInPublic true in
/-- The next device of the same row of four. -/
def wr (c : Dev nD) : Dev nD := ⟨c.val / 4 * 4 + (c.val + 1) % 4, by have h : c.val < 16 := c.isLt; show _ < 16; omega⟩
set_option backward.proofsInPublic true in
/-- The previous device of the same row of four. -/
def wl (c : Dev nD) : Dev nD := ⟨c.val / 4 * 4 + (c.val + 3) % 4, by have h : c.val < 16 := c.isLt; show _ < 16; omega⟩
set_option backward.proofsInPublic true in
/-- The partner across the first row bit. -/
def pA (c : Dev nD) : Dev nD := ⟨c.val / 8 * 8 + (c.val + 4) % 8, by have h : c.val < 16 := c.isLt; show _ < 16; omega⟩
set_option backward.proofsInPublic true in
/-- The partner across the second row bit. -/
def pB (c : Dev nD) : Dev nD := ⟨(c.val + 8) % 16, by show _ < 16; omega⟩
set_option backward.proofsInPublic true in
/-- The position of a device in its row of four. -/
def wF (c : Dev nD) : Fin 4 := ⟨c.val % 4, Nat.mod_lt _ (by decide)⟩

theorem wl_wr (c : Dev nD) : wl (wr c) = c := by revert c; decide
theorem wr_wl (c : Dev nD) : wr (wl c) = c := by revert c; decide
theorem pA_pA (c : Dev nD) : pA (pA c) = c := by revert c; decide
theorem pB_pB (c : Dev nD) : pB (pB c) = c := by revert c; decide
theorem wF_wr (c : Dev nD) : wF (wr c) = wF c + 1 := by revert c; decide
theorem wF_wl (c : Dev nD) : wF (wl c) = wF c - 1 := by revert c; decide
theorem wF_pA (c : Dev nD) : wF (pA c) = wF c := by revert c; decide
theorem wF_pB (c : Dev nD) : wF (pB c) = wF c := by revert c; decide

/-- One step to the right along every row, as a permutation of the devices; -/
def eR : Dev nD ≃ Dev nD := ⟨wr, wl, wl_wr, wr_wl⟩
/-- one step to the left; -/
def eL : Dev nD ≃ Dev nD := ⟨wl, wr, wr_wl, wl_wr⟩
/-- the two exchanges across the rows. -/
def eA : Dev nD ≃ Dev nD := ⟨pA, pA, pA_pA, pA_pA⟩
def eB : Dev nD ≃ Dev nD := ⟨pB, pB, pB_pB, pB_pB⟩

/-! ## The kernel's device ids -/

theorem dev1_eq (c : Dev nD) : (⟨k0_dev1 c, k0_dev1_lt c⟩ : Dev nD) = wl c := by revert c; decide +kernel
theorem dev2_eq (c : Dev nD) : (⟨k0_dev2 c, k0_dev2_lt c⟩ : Dev nD) = wr c := by revert c; decide +kernel
theorem dev3_eq (c : Dev nD) : (⟨k0_dev3 c, k0_dev3_lt c⟩ : Dev nD) = pA c := by revert c; decide +kernel
theorem dev4_eq (c : Dev nD) : (⟨k0_dev4 c, k0_dev4_lt c⟩ : Dev nD) = pB c := by revert c; decide +kernel
theorem dev5_eq (c : Dev nD) : (⟨k0_dev5 c, k0_dev5_lt c⟩ : Dev nD) = wr c := by revert c; decide +kernel
theorem dev6_eq (c : Dev nD) : (⟨k0_dev6 c, k0_dev6_lt c⟩ : Dev nD) = wr c := by revert c; decide +kernel
theorem dev7_eq (c : Dev nD) : (⟨k0_dev7 c, k0_dev7_lt c⟩ : Dev nD) = wr c := by revert c; decide +kernel
theorem dev8_eq (c : Dev nD) : (⟨k0_dev8 c, k0_dev8_lt c⟩ : Dev nD) = pA c := by revert c; decide +kernel
theorem dev9_eq (c : Dev nD) : (⟨k0_dev9 c, k0_dev9_lt c⟩ : Dev nD) = pB c := by revert c; decide +kernel
theorem dev10_eq (c : Dev nD) : (⟨k0_dev10 c, k0_dev10_lt c⟩ : Dev nD) = wr c := by revert c; decide +kernel
theorem dev11_eq (c : Dev nD) : (⟨k0_dev11 c, k0_dev11_lt c⟩ : Dev nD) = wl c := by revert c; decide +kernel
theorem dev12_eq (c : Dev nD) : (⟨k0_dev12 c, k0_dev12_lt c⟩ : Dev nD) = wr c := by revert c; decide +kernel
theorem dev13_eq (c : Dev nD) : (⟨k0_dev13 c, k0_dev13_lt c⟩ : Dev nD) = wl c := by revert c; decide +kernel
theorem dev14_eq (c : Dev nD) : (⟨k0_dev14 c, k0_dev14_lt c⟩ : Dev nD) = wr c := by revert c; decide +kernel
theorem dev15_eq (c : Dev nD) : (⟨k0_dev15 c, k0_dev15_lt c⟩ : Dev nD) = wl c := by revert c; decide +kernel

/-! ## The kernel's offsets: the batch groups of the working buffers -/

/-- Rows of batch group `g` of the activations. -/
abbrev xo (g : Fin 4) : Fin 2 → ℕ := ![256 * g.val, 0]
/-- Batch group `g` of the staged keys and values. -/
abbrev ko (g : Fin 4) : Fin 3 → ℕ := ![g.val, 0, 0]
/-- Batch group `g` of the output. -/
abbrev go (g : Fin 4) : Fin 3 → ℕ := ![4 * g.val, 0, 0]
/-- Half `b` of batch group `g` of the output. -/
abbrev ho (g : Fin 4) (b : Fin 2) : Fin 3 → ℕ := ![4 * g.val + 2 * b.val, 0, 0]

theorem off2_eq (c : Dev nD) : k0_off2 c = xo (wF c) := by revert c; decide +kernel
theorem off3_eq (c : Dev nD) : k0_off3 c = ko (wF c) := by revert c; decide +kernel
theorem off4_eq (c : Dev nD) : k0_off4 c = go (wF c) := by revert c; decide +kernel
theorem off5_eq (r : Fin 3) (c : Dev nD) : k0_off5 c (BitVec.ofNat 32 r.val) = go (wF c - Fin.castSucc r) := by revert r c; decide +kernel
theorem off6_eq (r : Fin 3) (c : Dev nD) : k0_off6 c (BitVec.ofNat 32 r.val) = xo (wF c - 1 - Fin.castSucc r) := by revert r c; decide +kernel
theorem off7_eq (r : Fin 3) (c : Dev nD) : k0_off7 c (BitVec.ofNat 32 r.val) = ko (wF c - 1 - Fin.castSucc r) := by revert r c; decide +kernel
theorem off8_eq (r : Fin 3) (c : Dev nD) : k0_off8 c (BitVec.ofNat 32 r.val) = go (wF c - 1 - Fin.castSucc r) := by revert r c; decide +kernel
theorem off9_eq (c : Dev nD) : k0_off9 c = go (wF c + 1) := by revert c; decide +kernel
theorem off10_eq (c : Dev nD) : k0_off10 c = ho (wF c + 1) 0 := by revert c; decide +kernel
theorem off11_eq (c : Dev nD) : k0_off11 c = ho (wF c + 1) 1 := by revert c; decide +kernel
theorem off12_eq (r : Fin 3) (c : Dev nD) : k0_off12 c (BitVec.ofNat 32 r.val) = ho (wF c - Fin.castSucc r) 0 := by revert r c; decide +kernel
theorem off13_eq (r : Fin 2) (c : Dev nD) : k0_off13 c (BitVec.ofNat 32 r.val) = ho (wF c + 2 + Fin.castLE (by decide) r) 1 := by revert r c; decide +kernel
theorem off14_eq (c : Dev nD) : k0_off14 c = ho (wF c) 1 := by revert c; decide +kernel

/-! ## The cells

Device `c`'s semaphores are numbered from 0 to 23: 0 the barrier; 1, 2 the copies of the device's keys and values; 3–5 and
6–8 the sends and landings of the first exchange (a ring of three steps); 9 and 10, 11 the send and the two landings of
the second (two pairwise exchanges); 12–14, 15–17 and 18–20, 21–23 the sends and landings of the third (a ring of three
steps each way). -/

/-- The runtime's barrier semaphore. -/
abbrev barS : Sem sig := (SemArray.scalar (sig.barrier 0 rfl) : Sems sig S_).sem

set_option backward.proofsInPublic true in
/-- The semaphore under number `k`. -/
def csem (k : Fin 24) : SemLoc sig := if h : k.val = 0 then .reg barS else .dma ⟨k.val + 3, by have := k.isLt; show _ < 27; omega⟩

set_option backward.proofsInPublic true in
/-- The number of a semaphore, none for the pipeline's own. -/
def kOf : SemLoc sig → Option (Fin 24)
  | .reg s => if s = barS then some 0 else none
  | .dma q => if h : 4 ≤ q.val then some ⟨q.val - 3, by have h' : q.val < 27 := q.isLt; omega⟩ else none

theorem kOf_csem (k : Fin 24) : kOf (csem k) = some k := by revert k; decide
theorem csem_inj : Function.Injective csem := fun k k' h => by
  have := kOf_csem k; rw [h, kOf_csem] at this; exact (Option.some.inj this).symm

/-- Cell `k` of device `c`. -/
abbrev kcell (ck : Dev nD × Fin 24) : GSem nD τ sig := ((ck.1 : Thread nD τ), csem ck.2)

theorem kcell_injective : Function.Injective (kcell : Dev nD × Fin 24 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- What one duty of cell `k` pays: a unit at the barrier, else the credit of the block the transfer moves. -/
def amt (k : Fin 24) : ℕ :=
  if k.val = 0 then 1
  else if k.val ≤ 2 then (Memref.whole cc0_scratch2 : Memref sig .tc .vmem S4x1024x256 .f32).view.dmaCredit
  else if k.val ≤ 11 then (Memref.whole cc0_scratch5 : Memref sig .tc .vmem S4x64x1024 .bf16).view.dmaCredit
  else (Memref.whole cc0_scratch9 : Memref sig .tc .vmem S2x64x1024 .bf16).view.dmaCredit

theorem amt_pos (k : Fin 24) : 0 < amt k := by
  unfold amt
  split
  · exact Nat.one_pos
  · split
    · exact View.dmaCredit_pos _ (by decide)
    · split <;> exact View.dmaCredit_pos _ (by decide)

/-- How many rounds cell `k` runs: the second exchange's send cell two, every other one. -/
def rnds (k : Fin 24) : ℕ := if k.val = 9 then 2 else 1

/-! ## The duties a device pays

Twenty-eight: its four neighbours' barrier units (0–3), the one duty of each transfer cell `j - 3` (4–26) — its own for a
copy or a send, its peer's for a landing —, and the second round of its own second-exchange send cell (27). -/

/-- The cell of duty `j`; -/
def tk (j : Fin 28) : Fin 24 := if j.val < 4 then 0 else if h : j.val < 27 then ⟨j.val - 3, by omega⟩ else 9
/-- its round; -/
def tr (j : Fin 28) : ℕ := if j.val = 27 then 1 else 0
/-- its name within the round; -/
def td (j : Fin 28) : Fin 4 := if h : j.val < 4 then ⟨j.val, h⟩ else 0
/-- and the device whose cell it is, as a permutation of the payer. -/
def peer (j : Fin 28) : Dev nD ≃ Dev nD :=
  match j.val with
  | 0 => eL | 1 => eR | 2 => eA | 3 => eB
  | 9 => eR | 10 => eR | 11 => eR
  | 13 => eA | 14 => eB
  | 18 => eR | 19 => eR | 20 => eR
  | 24 => eL | 25 => eL | 26 => eL
  | _ => Equiv.refl _

theorem t_inj : ∀ j j' : Fin 28, tk j = tk j' → tr j = tr j' → td j = td j' → j = j' := by decide

/-! ## What a device owes its peers, in the order it pays -/

/-- The duty that is the `i`-th payment to another device. -/
def ot (i : Fin 15) : Fin 28 :=
  match i.val with
  | 0 => 0 | 1 => 1 | 2 => 2 | 3 => 3 | 4 => 9 | 5 => 10 | 6 => 11 | 7 => 13 | 8 => 14
  | 9 => 18 | 10 => 24 | 11 => 19 | 12 => 25 | 13 => 20 | _ => 26

/-- The level of cell `k`: a landing is above the barrier and above every landing it follows. -/
def lvK (k : Fin 24) : ℕ :=
  match k.val with
  | 0 => 1 | 6 => 2 | 7 => 3 | 8 => 4 | 10 => 5 | 11 => 6 | 15 => 7 | 16 => 8 | 17 => 9 | 21 => 7 | 22 => 8 | 23 => 9
  | _ => 0

end Cert.Mesh

end
-- ==== Proof.Contents.lean ====
/- What every buffer of the kernel holds, device by device, as values of the arguments: a device's partial product for a
   batch group, the partial sums and the rounded blocks each exchange carries, and the result. -/
module

public import proofs.«01_k».proof.Proof.Mesh
public import Idealize.ShloMosaic.Lib.Pointwise

@[expose] public section

set_option maxRecDepth 16384

noncomputable section

namespace Cert.Mesh

open Cert.KernelIdeal Cert.KernelIdeal.Gen
open Idealize.ShloMosaic Idealize.ShloMosaic.TcCoe

variable {F : FTy → Type} [FloatOps F]

/-! ## The buffers -/

abbrev xM : Memref sig .tc .vmem S1024x1024 .f32 := Memref.whole cc0_stg0_0
abbrev qM : Memref sig .tc .vmem S1024x1024 .f32 := Memref.whole cc0_stg1_0
abbrev pM : Memref sig .tc .vmem S1024x1024 .f32 := Memref.whole cc0_stg2_0
abbrev KM : Memref sig .tc .hbm S4x1024x4096 .f32 := Memref.whole main_arg3
abbrev VM : Memref sig .tc .hbm S4x1024x4096 .f32 := Memref.whole main_arg4
abbrev oM : Memref sig .tc .vmem S16x64x1024 .f32 := Memref.whole cc0_stg3_0
abbrev wqM : Memref sig .tc .vmem S1024x1024 .bf16 := Memref.whole cc0_scratch0
abbrev woM : Memref sig .tc .vmem S1024x1024 .bf16 := Memref.whole cc0_scratch1
abbrev kM : Memref sig .tc .vmem S4x1024x256 .f32 := Memref.whole cc0_scratch2
abbrev vM : Memref sig .tc .vmem S4x1024x256 .f32 := Memref.whole cc0_scratch3
abbrev stM : Memref sig .tc .vmem S3x4x64x1024 .bf16 := Memref.whole cc0_scratch4
abbrev psM : Memref sig .tc .vmem S4x64x1024 .bf16 := Memref.whole cc0_scratch5
abbrev rsM : Memref sig .tc .vmem S3x4x64x1024 .bf16 := Memref.whole cc0_scratch6
abbrev zAM : Memref sig .tc .vmem S4x64x1024 .bf16 := Memref.whole cc0_scratch7
abbrev zBM : Memref sig .tc .vmem S4x64x1024 .bf16 := Memref.whole cc0_scratch8
abbrev gRM : Memref sig .tc .vmem S2x64x1024 .bf16 := Memref.whole cc0_scratch9
abbrev gLM : Memref sig .tc .vmem S2x64x1024 .bf16 := Memref.whole cc0_scratch10
abbrev aRM : Memref sig .tc .vmem S3x2x64x1024 .bf16 := Memref.whole cc0_scratch11
abbrev aLM : Memref sig .tc .vmem S3x2x64x1024 .bf16 := Memref.whole cc0_scratch12

/-- The columns of the keys, or of the values, that device `c` copies in. -/
abbrev kvS (M : Memref sig .tc .hbm S4x1024x4096 .f32) (c : Dev nD) : Memref sig .tc .hbm S4x1024x256 .f32 :=
  M.slice (Rect.unit (s := S4x1024x4096) (k0_off1 c) S4x1024x256.size (k0_off1_inb c)) (fun _ => rfl)

theorem inb4 : ∀ (s : Fin 3) (a : Fin 4), (![s.val, 0, 0, 0] : Fin 4 → ℕ) a + S1x4x64x1024.size a ≤ S3x4x64x1024.size a := by decide
theorem inb2 : ∀ (s : Fin 3) (a : Fin 4), (![s.val, 0, 0, 0] : Fin 4 → ℕ) a + S1x2x64x1024.size a ≤ S3x2x64x1024.size a := by decide

/-- Slot `s` of a three-slot buffer of four batches; -/
abbrev rc4 (s : Fin 3) : Rect S3x4x64x1024 := Rect.unit (s := S3x4x64x1024) ![s.val, 0, 0, 0] S1x4x64x1024.size (inb4 s)
abbrev slot4 (M : Memref sig .tc .vmem S3x4x64x1024 .bf16) (s : Fin 3) : Memref sig .tc .vmem S4x64x1024 .bf16 :=
  (M.slice (rc4 s) (fun _ => rfl)).squeeze S4x64x1024 squeezes_S1x4x64x1024_S4x64x1024
/-- of two batches. -/
abbrev rc2 (s : Fin 3) : Rect S3x2x64x1024 := Rect.unit (s := S3x2x64x1024) ![s.val, 0, 0, 0] S1x2x64x1024.size (inb2 s)
abbrev slot2 (M : Memref sig .tc .vmem S3x2x64x1024 .bf16) (s : Fin 3) : Memref sig .tc .vmem S2x64x1024 .bf16 :=
  (M.slice (rc2 s) (fun _ => rfl)).squeeze S2x64x1024 squeezes_S1x2x64x1024_S2x64x1024

/-- A slot's block under the slot's leading unit axis, and back. -/
def uns4 (X : Vec F S4x64x1024 .bf16) : Vec F S1x4x64x1024 .bf16 := shapeCast S1x4x64x1024 X shapeCasts_S4x64x1024_S1x4x64x1024
def sqz4 (X : Vec F S1x4x64x1024 .bf16) : Vec F S4x64x1024 .bf16 := shapeCast S4x64x1024 X shapeCasts_S1x4x64x1024_S4x64x1024
def uns2 (X : Vec F S2x64x1024 .bf16) : Vec F S1x2x64x1024 .bf16 := fun j => X (Shape.reshapeEquiv (by decide) j)

/-! ## One device's product for one batch group -/

/-- Attention of the device's eight heads for one batch group, and its product with the device's rows of the output
    weights. -/
def grp (x : Vec F S256x1024 .f32) (wq : Vec F S1024x1024 .bf16) (k v : Vec F S1x1024x256 .f32) (wo : Vec F S1024x1024 .bf16) :
    Vec F S4x64x1024 .f32 :=
  let Q := k0_pay4 x wq
  let K := k0_pay5 k
  let V := k0_pay6 v
  k0_pay19 Q K V (k0_pay7 x wq k v) (k0_pay10 V (k0_pay8 x wq k) (k0_pay9 x wq k)) (k0_pay11 Q K V) (k0_pay12 Q K V)
    (k0_pay14 V (k0_pay13 Q K)) (k0_pay15 Q K V) (k0_pay17 Q K V) (k0_pay18 Q K) wo

section Group
variable (x : Vec F S256x1024 .f32) (wq : Vec F S1024x1024 .bf16) (k v : Vec F S1x1024x256 .f32) (wo : Vec F S1024x1024 .bf16)

/-- The second, third and fourth computation of the kernel's text, cut at other places, are the first. -/
theorem grp_second (Q : Vec F S256x1024 .f32) (K V : Vec F S1024x256 .bf16) (hQ : Q = k0_pay21 x wq) (hK : K = k0_pay22 k) (hV : V = k0_pay23 v) :
    k0_pay36 Q K V (k0_pay24 x wq k v) (k0_pay26 V (k0_pay25 x wq k)) (k0_pay27 Q K V) (k0_pay28 Q K V)
      (k0_pay31 V (k0_pay29 Q) (k0_pay30 K) (constant S256x1024 .f32 0x00000000#32)) (k0_pay32 Q K V) (k0_pay34 Q K) (k0_pay35 Q K) wo
      = grp x wq k v wo := by subst hQ hK hV; rfl

theorem grp_third (Q : Vec F S256x1024 .f32) (K V : Vec F S1024x256 .bf16) (hQ : Q = k0_pay40 x wq) (hK : K = k0_pay41 k) (hV : V = k0_pay42 v) :
    k0_pay55 V (k0_pay43 Q k v) (k0_pay44 Q k v) (k0_pay47 V (k0_pay45 Q) (k0_pay46 k)) (k0_pay48 Q K V)
      (k0_pay51 V (k0_pay49 Q K) (k0_pay50 Q K)) (k0_pay52 Q K V) (k0_pay53 Q K V) (k0_pay54 Q K) wo
      = grp x wq k v wo := by subst hQ hK hV; rfl

theorem grp_fourth (Q : Vec F S256x1024 .f32) (K V : Vec F S1024x256 .bf16) (hQ : Q = k0_pay59 x wq) (hK : K = k0_pay60 k) (hV : V = k0_pay61 v) :
    k0_pay77 (k0_pay63 K V (k0_pay62 x wq)) (k0_pay64 Q K V) (k0_pay67 V (k0_pay65 Q K) (k0_pay66 Q K)) (k0_pay68 Q K V) (k0_pay69 Q K V)
      (k0_pay72 V (k0_pay70 Q K) k0_pay71) (k0_pay73 Q K V) (k0_pay75 Q K) (k0_pay76 Q K V) wo
      = grp x wq k v wo := by subst hQ hK hV; rfl
end Group

/-! ## The arguments as staged -/

variable (m : (ℓ : Loc nD τ sig) → Buf (Elt F) ℓ)

def xv (c : Dev nD) : Vec F S1024x1024 .f32 := (win0_0.blk (0 : Fin 1)).view.read (Elt F) (m ((c : Thread nD τ).loc main_arg0))
def qv (c : Dev nD) : Vec F S1024x1024 .f32 := (win0_1.blk (0 : Fin 1)).view.read (Elt F) (m ((c : Thread nD τ).loc main_arg1))
def pv (c : Dev nD) : Vec F S1024x1024 .f32 := (win0_2.blk (0 : Fin 1)).view.read (Elt F) (m ((c : Thread nD τ).loc main_arg2))
def wqv (c : Dev nD) : Vec F S1024x1024 .bf16 := k0_pay2 (k0_pay1 (qv m c))
def wov (c : Dev nD) : Vec F S1024x1024 .bf16 := k0_pay3 (pv m c)
/-- The keys and the values device `c` copies in. -/
def kv (c : Dev nD) : Vec F S4x1024x256 .f32 := (kvS KM c).view.read (Elt F) (m ((c : Thread nD τ).loc main_arg3))
def vv (c : Dev nD) : Vec F S4x1024x256 .f32 := (kvS VM c).view.read (Elt F) (m ((c : Thread nD τ).loc main_arg4))

theorem inbx : ∀ (g : Fin 4) (a : Fin 2), xo g a + S256x1024.size a ≤ S1024x1024.size a := by decide
theorem inbk : ∀ (g : Fin 4) (a : Fin 3), ko g a + S1x1024x256.size a ≤ S4x1024x256.size a := by decide
theorem inbg : ∀ (g : Fin 4) (a : Fin 3), go g a + S4x64x1024.size a ≤ S16x64x1024.size a := by decide
theorem inbh : ∀ (g : Fin 4) (b : Fin 2) (a : Fin 3), ho g b a + S2x64x1024.size a ≤ S16x64x1024.size a := by decide

abbrev rx (g : Fin 4) : Rect S1024x1024 := Rect.unit (s := S1024x1024) (xo g) S256x1024.size (inbx g)
abbrev rk (g : Fin 4) : Rect S4x1024x256 := Rect.unit (s := S4x1024x256) (ko g) S1x1024x256.size (inbk g)
abbrev rg (g : Fin 4) : Rect S16x64x1024 := Rect.unit (s := S16x64x1024) (go g) S4x64x1024.size (inbg g)
abbrev rh (g : Fin 4) (b : Fin 2) : Rect S16x64x1024 := Rect.unit (s := S16x64x1024) (ho g b) S2x64x1024.size (inbh g b)

/-- Batch group `g` of the rows, of the keys, of the values. -/
def xg (c : Dev nD) (g : Fin 4) : Vec F S256x1024 .f32 := fun j => xv m c ((rx g).emb j)
def kg (c : Dev nD) (g : Fin 4) : Vec F S1x1024x256 .f32 := fun j => kv m c ((rk g).emb j)
def vg (c : Dev nD) (g : Fin 4) : Vec F S1x1024x256 .f32 := fun j => vv m c ((rk g).emb j)

/-- Device `c`'s product for batch group `g`. -/
def P (c : Dev nD) (g : Fin 4) : Vec F S4x64x1024 .f32 := grp (xg m c g) (wqv m c) (kg m c g) (vg m c g) (wov m c)

/-! ## The exchanges -/

/-- The first exchange: what device `c` sends right at steps 0, 1, 2, and its partial sums after each landing. -/
def S0 (c : Dev nD) : Vec F S4x64x1024 .bf16 := sqz4 (k0_pay20 (P m c (wF c)))
def A1 (c : Dev nD) : Vec F S4x64x1024 .f32 := k0_pay37 (P m c (wF c + 3)) (uns4 (S0 m (wl c)))
def S1 (c : Dev nD) : Vec F S4x64x1024 .bf16 := sqz4 (k0_pay39 (k0_pay38 (A1 m c)))
def A2 (c : Dev nD) : Vec F S4x64x1024 .f32 := k0_pay57 (k0_pay56 (P m c (wF c + 2))) (uns4 (S1 m (wl c)))
def S2 (c : Dev nD) : Vec F S4x64x1024 .bf16 := sqz4 (k0_pay58 (A2 m c))
def A3 (c : Dev nD) : Vec F S4x64x1024 .f32 := k0_pay78 (P m c (wF c + 1)) (uns4 (S2 m (wl c)))

/-- The second: the two blocks sent across the rows, and the sums after each. -/
def T0 (c : Dev nD) : Vec F S4x64x1024 .bf16 := k0_pay79 (A3 m c)
def B1 (c : Dev nD) : Vec F S4x64x1024 .f32 := k0_pay80 (A3 m c) (T0 m (pA c))
def T1 (c : Dev nD) : Vec F S4x64x1024 .bf16 := k0_pay81 (B1 m c)
def B2 (c : Dev nD) : Vec F S4x64x1024 .f32 := k0_pay82 (B1 m c) (T1 m (pB c))

/-- Batch `i` of half `b` within a group, and back; the group of a batch and its place there. -/
def hl (b i : Fin 2) : Fin 4 := ⟨2 * b.val + i.val, by omega⟩
def hi (j : Fin 4) : Fin 2 := ⟨j.val / 2, by omega⟩
def lo (j : Fin 4) : Fin 2 := ⟨j.val % 2, by omega⟩
def gq (j : Fin 16) : Fin 4 := ⟨j.val / 4, by omega⟩
def gr (j : Fin 16) : Fin 4 := ⟨j.val % 4, by omega⟩

/-- Half `b` of a group, and a group with its half `b` replaced. -/
def half (b : Fin 2) (G : Vec F S4x64x1024 .f32) : Vec F S2x64x1024 .f32 :=
  fun j => G (ix3 (hl b (j 0)) (j 1) (j 2))
def setHalf (b : Fin 2) (G : Vec F S4x64x1024 .f32) (w : Vec F S2x64x1024 .f32) : Vec F S4x64x1024 .f32 :=
  fun j => if hi (j 0) = b then w (ix3 (lo (j 0)) (j 1) (j 2)) else G j

/-- The third: the half a device sends right, the half it sends left; -/
def R0 (c : Dev nD) : Vec F S2x64x1024 .bf16 := k0_pay84 (k0_pay83 (half 0 (B2 m c)))
def L0 (c : Dev nD) : Vec F S2x64x1024 .bf16 := k0_pay85 (half 1 (B2 m c))
/-- what has landed in its slot `s` from the left, from the right. -/
def RR : Fin 3 → Dev nD → Vec F S2x64x1024 .bf16
  | 0, c => R0 m (wl c) | 1, c => R0 m (wl (wl c)) | 2, c => R0 m (wl (wl (wl c)))
def LL : Fin 3 → Dev nD → Vec F S2x64x1024 .bf16
  | 0, c => L0 m (wr c) | 1, c => L0 m (wr (wr c)) | 2, c => L0 m (wr (wr (wr c)))

/-- A group as put together from the two halves that landed. -/
def glue (r l : Vec F S2x64x1024 .bf16) : Vec F S4x64x1024 .f32 :=
  fun j => if hi (j 0) = 0 then k0_pay86 (uns2 r) (ix3 (lo (j 0)) (j 1) (j 2))
    else k0_pay87 (uns2 l) (ix3 (lo (j 0)) (j 1) (j 2))

/-- Device `c`'s result, by the distance of the batch group from its place in its row. -/
def outG (c : Dev nD) : Fin 4 → Vec F S4x64x1024 .f32
  | 0 => glue (R0 m (wl c)) (L0 m (wl c))
  | 1 => B2 m c
  | 2 => glue (R0 m (wr c)) (L0 m (wr c))
  | 3 => glue (R0 m (wl (wl c))) (L0 m (wl (wl c)))

/-- Device `c`'s result. -/
def outAt (c : Dev nD) : (cc0_stg3_0 : Ref sig .tc).ty.Contents (Elt F) :=
  fun j => outG m c (gq (j 0) - wF c) (ix3 (gr (j 0)) (j 1) (j 2))

end Cert.Mesh

end
-- ==== Proof.Proto.lean ====
/- The protocol of the kernel's semaphores: what each round of each cell hands over, what a device owes its peers and in
   which order, the levels that order the waits. -/
module

public import proofs.«01_k».proof.Proof.Contents

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds and this kernel's, four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## A block of a buffer held, with what it holds -/

section Held
variable {sp : Space} {s : Shape} {e : EltTy}

/-- Share `q` of the block `M` of device `c`, holding `X`; -/
def sl (c : Dev nD) (M : Memref sig .tc sp s e) (q : PosShare TreeShare) (X : s.Idx → Elt F e) : sProp 𝕄 :=
  iprop(∃ f, ⌜M.view.read (Elt F) f = X⌝ ∗ (M.view.loc (c : Thread nD τ) ↦[M.view.set]{q} f))
/-- all of it, holding anything. -/
def slE (c : Dev nD) (M : Memref sig .tc sp s e) : sProp 𝕄 :=
  iprop(∃ f, (M.view.loc (c : Thread nD τ) ↦[M.view.set]{fullShare} f))

omit [FloatOps F] in
instance sl_storable (c : Dev nD) (M : Memref sig .tc sp s e) (q) (X) : BI.Storable (upEmb : UEmb _ 𝕄) (sl (F := F) c M q X) := by
  unfold sl; infer_instance
omit [FloatOps F] in
instance slE_storable (c : Dev nD) (M : Memref sig .tc sp s e) : BI.Storable (upEmb : UEmb _ 𝕄) (slE (F := F) c M) := by
  unfold slE; infer_instance

variable {c : Dev nD} {M : Memref sig .tc sp s e} {q : PosShare TreeShare} {X : s.Idx → Elt F e}

omit [FloatOps F] in
/-- What a block holds may be forgotten. -/
theorem sl_any : sl c M fullShare X ⊢ (slE c M : sProp 𝕄) := by
  unfold sl slE; iintro ⟨%f, -, H⟩; iexists f; iexact H

omit [FloatOps F] in
/-- A block held whole is held in two half shares, -/
theorem sl_halve : sl c M fullShare X ⊢ (iprop(sl c M fullShare.left X ∗ sl c M fullShare.right X) : sProp 𝕄) := by
  unfold sl; iintro ⟨%f, %h, H⟩
  ihave H' := (pointsTo_share (PosShare.mem_left_op_right fullShare)).1 $$ H
  icases H' with ⟨H1, H2⟩
  isplitl [H1]
  · iexists f; isplitr; · ipureintro; exact h
    iexact H1
  · iexists f; isplitr; · ipureintro; exact h
    iexact H2

omit [FloatOps F] in
/-- and back. -/
theorem sl_whole {Y : s.Idx → Elt F e} : iprop(sl c M fullShare.left X ∗ sl c M fullShare.right Y) ⊢ (sl c M fullShare X : sProp 𝕄) := by
  unfold sl; iintro ⟨⟨%f, %h, H1⟩, ⟨%g, %h', H2⟩⟩
  ihave H := (persistent_entails_left (pointsTo_agree (Val := Elt F) (ℓ := M.view.loc (c : Thread nD τ)) (q₁ := fullShare.left) (q₂ := fullShare.right) (I := M.view.set) (J := M.view.set) (f := f) (g := g))) $$ [H1 H2]
  · isplitl [H1]; · iexact H1
    iexact H2
  icases H with ⟨⟨H1, H2⟩, %hag⟩
  iexists f
  isplitr; · ipureintro; exact h
  have hfg : ∀ i ∈ M.view.set, g i = f i := fun i hi => (hag i (Finset.mem_inter.mpr ⟨hi, hi⟩)).1.symm
  iapply (pointsTo_share (PosShare.mem_left_op_right fullShare)).2
  isplitl [H1]; · iexact H1
  iapply (Entails.of_eq (pointsTo_congr hfg)); iexact H2

end Held

/-! ## What each round hands over -/

/-- What reaches a device's barrier: from its right neighbour the three slots it sends right into at the first exchange
    and the three at the third, from its left the three it sends left into, and from each partner its landing buffer. -/
def barPay (c : Dev nD) (d : ℕ) : sProp 𝕄 :=
  match d with
  | 0 => iprop(slE (wr c) (slot4 rsM 0) ∗ slE (wr c) (slot4 rsM 1) ∗ slE (wr c) (slot4 rsM 2)
      ∗ slE (wr c) (slot2 aRM 0) ∗ slE (wr c) (slot2 aRM 1) ∗ slE (wr c) (slot2 aRM 2))
  | 1 => iprop(slE (wl c) (slot2 aLM 0) ∗ slE (wl c) (slot2 aLM 1) ∗ slE (wl c) (slot2 aLM 2))
  | 2 => slE (pA c) zAM
  | _ => slE (pB c) zBM

/-- A copied block with the columns it was copied from. -/
def kvPay (c : Dev nD) (M : Memref sig .tc .vmem S4x1024x256 .f32) (N : Memref sig .tc .hbm S4x1024x256 .f32) (X : Vec F S4x1024x256 .f32)
    (f : Buf (Elt F) (N.view.loc (c : Thread nD τ))) : sProp 𝕄 :=
  iprop(sl c M fullShare X ∗ (N.view.loc (c : Thread nD τ) ↦[N.view.set]{fullShare} f))

omit [FloatOps F] in
instance kvPay_storable (c : Dev nD) (M N X f) : BI.Storable (upEmb : UEmb _ 𝕄) (kvPay (F := F) c M N X f) := by
  unfold kvPay; infer_instance
omit [FloatOps F] in
instance barPay_storable (c : Dev nD) (d : ℕ) : BI.Storable (upEmb : UEmb _ 𝕄) (barPay (F := F) c d) := by
  unfold barPay; split <;> infer_instance

/-- What duty `d` of round `r` of device `c`'s cell `k` hands over. -/
def pay (c : Dev nD) (k : Fin 24) (r : ℕ) (d : Fin 4) : sProp 𝕄 :=
  match k.val with
  | 0 => barPay c d.val
  | 1 => kvPay c kM (kvS KM c) (kv m c) (m ((c : Thread nD τ).loc main_arg3))
  | 2 => kvPay c vM (kvS VM c) (vv m c) (m ((c : Thread nD τ).loc main_arg4))
  | 3 => slE c (slot4 stM 0) | 4 => slE c (slot4 stM 1) | 5 => slE c (slot4 stM 2)
  | 6 => sl c (slot4 rsM 0) fullShare (S0 m (wl c))
  | 7 => sl c (slot4 rsM 1) fullShare (S1 m (wl c))
  | 8 => sl c (slot4 rsM 2) fullShare (S2 m (wl c))
  | 9 => slE c psM
  | 10 => sl c zAM fullShare (T0 m (pA c))
  | 11 => sl c zBM fullShare (T1 m (pB c))
  | 12 => slE c gRM
  | 13 => sl c (slot2 aRM 0) fullShare.right (RR m 0 c)
  | 14 => sl c (slot2 aRM 1) fullShare.right (RR m 1 c)
  | 15 => sl c (slot2 aRM 0) fullShare (RR m 0 c)
  | 16 => sl c (slot2 aRM 1) fullShare (RR m 1 c)
  | 17 => sl c (slot2 aRM 2) fullShare (RR m 2 c)
  | 18 => slE c gLM
  | 19 => sl c (slot2 aLM 0) fullShare.right (LL m 0 c)
  | 20 => sl c (slot2 aLM 1) fullShare.right (LL m 1 c)
  | 21 => sl c (slot2 aLM 0) fullShare (LL m 0 c)
  | 22 => sl c (slot2 aLM 1) fullShare (LL m 1 c)
  | _ => sl c (slot2 aLM 2) fullShare (LL m 2 c)

instance pay_storable (c : Dev nD) (k : Fin 24) (r : ℕ) (d : Fin 4) : BI.Storable (upEmb : UEmb _ 𝕄) (pay (F := F) m c k r d) := by
  unfold pay; split <;> infer_instance

/-- The duties of round `r` of a cell `k`: four at the barrier, one elsewhere. -/
def dut (k : Fin 24) (r : ℕ) : Finset (Fin 4) := if r < rnds k then (if k.val = 0 then Finset.univ else {0}) else ∅

/-- The schedule of all cells. -/
def Rd : Rounds.Schedule (GSem nD τ sig) (Fin 4) 𝕄 where
  duties g r := if g.1.2 = .tc then (match kOf g.2 with | some k => dut k r | none => ∅) else ∅
  unitless _ := False
  amount g _ _ := match kOf g.2 with | some k => amt k | none => 1
  payload g r d := match kOf g.2 with | some k => pay m g.1.1 k r d | none => iprop(emp)
  amount_pos g _ _ _ := by
    show 0 < (match kOf g.2 with | some k => amt k | none => 1)
    split
    · exact amt_pos _
    · exact Nat.one_pos

instance Rd_payload_storable (g : GSem nD τ sig) (r : ℕ) (d : Fin 4) : BI.Storable (upEmb : UEmb _ 𝕄) ((Rd (F := F) m).payload g r d) := by
  show BI.Storable upEmb (match kOf g.2 with | some k => pay m g.1.1 k r d | none => iprop(emp))
  split <;> infer_instance

section Table
variable (c : Dev nD) (k : Fin 24) (r : ℕ) (d : Fin 4)

theorem Rd_duties : (Rd (F := F) m).duties (kcell (c, k)) r = dut k r := by
  show (if ((c : Thread nD τ)).2 = .tc then (match kOf (csem k) with | some k => dut k r | none => ∅) else ∅) = _
  rw [if_pos rfl, kOf_csem]
theorem Rd_amount : (Rd (F := F) m).amount (kcell (c, k)) r d = amt k := by
  show (match kOf (csem k) with | some k => amt k | none => 1) = _
  rw [kOf_csem]
theorem Rd_payload : (Rd (F := F) m).payload (kcell (c, k)) r d = pay m c k r d := by
  show (match kOf (csem k) with | some k => pay m c k r d | none => iprop(emp)) = _
  rw [kOf_csem]
theorem Rd_later (g : GSem nD τ sig) : ∀ r, 2 ≤ r → (Rd (F := F) m).duties g r = ∅ := fun r hr => by
  show (if g.1.2 = .tc then (match kOf g.2 with | some k => dut k r | none => ∅) else ∅) = _
  split
  · split
    · unfold dut rnds; rw [if_neg]; split <;> omega
    · rfl
  · rfl
theorem Rd_done : ∀ r', rnds k ≤ r' → (Rd (F := F) m).duties (kcell (c, k)) r' = ∅ := fun r' h => by
  rw [Rd_duties]; unfold dut; rw [if_neg (by omega)]

variable {k r}
theorem mem_dut (hr : r < rnds k) (hk : k.val = 0 ∨ d = 0) : d ∈ dut k r := by
  unfold dut; rw [if_pos hr]; split
  · exact Finset.mem_univ _
  · rcases hk with h | h
    · contradiction
    · rw [h]; exact Finset.mem_singleton_self _

/-- All a round of cell `k` brings. -/
def need (k : Fin 24) : ℕ := if k.val = 0 then 4 else amt k

theorem Rd_expect (hr : r < rnds k) : (Rd (F := F) m).expect (kcell (c, k)) r = need k := by
  unfold Schedule.expect Schedule.amountOf
  rw [Rd_duties, Finset.sum_congr rfl fun d _ => Rd_amount m c k r d, Finset.sum_const, smul_eq_mul]
  unfold dut need; rw [if_pos hr]
  split
  · rename_i h; rw [Finset.card_univ, Fintype.card_fin, show amt k = 1 from if_pos h]
  · rw [Finset.card_singleton, one_mul]

theorem Rd_rest (hr : r < rnds k) (hk : k.val ≠ 0) :
    bigSep ((Rd (F := F) m).duties (kcell (c, k)) r \ ∅) (fun d => (Rd (F := F) m).payload (kcell (c, k)) r d) = pay m c k r 0 := by
  rw [Finset.sdiff_empty, Rd_duties, show dut k r = {0} from (if_pos hr).trans (if_neg hk), bigSep_singleton, Rd_payload]

theorem Rd_rest_bar :
    bigSep ((Rd (F := F) m).duties (kcell (c, 0)) 0 \ ∅) (fun d => (Rd (F := F) m).payload (kcell (c, 0)) 0 d)
      = iprop(barPay c 0 ∗ barPay c 1 ∗ barPay c 2 ∗ barPay c 3) := by
  rw [Finset.sdiff_empty, Rd_duties, show dut 0 0 = Finset.univ from rfl, bigSep_univ_eq_bigSepL [0, 1, 2, 3] (by decide) (by decide),
    bigSepL_cons_cons, bigSepL_cons_cons, bigSepL_cons_cons, bigSepL_singleton]
  simp only [Rd_payload]; rfl

end Table

/-! ## What a device owes -/

/-- The cell device `c` pays at its `i`-th payment to another device. -/
abbrev oc (c : Dev nD) (i : Fin 15) : GSem nD τ sig := kcell (peer (ot i) c, tk (ot i))
abbrev oa (i : Fin 15) : ℕ := amt (tk (ot i))

/-- What device `c` owes after `n` payments. -/
def owed (c : Dev nD) (n : ℕ) : CellTallies nD τ sig Unit := ∑ i : Fin 15, if n ≤ i.val then tallyAt (oc c i) () (oa i) else 0

theorem owed_succ (c : Dev nD) (i : Fin 15) : owed c i.val = owed c (i.val + 1) + tallyAt (oc c i) () (oa i) := by
  unfold owed
  rw [← Finset.sum_erase_add _ _ (Finset.mem_univ i), if_pos le_rfl, ← Finset.sum_erase (a := i) (f := fun j : Fin 15 => if i.val + 1 ≤ j.val then tallyAt (oc c j) () (oa j) else 0) _ (if_neg (by omega))]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]

theorem owed_done (c : Dev nD) : owed c 15 = 0 :=
  Finset.sum_eq_zero fun i _ => if_neg (by have := i.isLt; omega)

theorem owed_pos {c : Dev nD} {n : ℕ} {g : GSem nD τ sig} {u : Unit} (h : 0 < owed c n g u) : ∃ i : Fin 15, n ≤ i.val ∧ g = oc c i := by
  unfold owed at h
  rw [Finset.sum_apply, Finsupp.finset_sum_apply] at h
  obtain ⟨i, -, hi⟩ := Finset.exists_ne_zero_of_sum_ne_zero (Nat.pos_iff_ne_zero.mp h)
  by_cases hn : n ≤ i.val
  · rw [if_pos hn, tallyAt_apply] at hi
    by_cases hg : g = oc c i ∧ u = ()
    · exact ⟨i, hn, hg.1⟩
    · rw [if_neg hg] at hi; exact absurd rfl hi
  · rw [if_neg hn] at hi; exact absurd rfl hi

def L (g : GSem nD τ sig) : Finset Unit := if g.1.2 = .tc then {()} else ∅
def lv (g : GSem nD τ sig) (_ : Unit) : ℕ := match kOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 24) : lv (kcell (c, k)) () = lvK k := by
  show (match kOf (csem k) with | some k => lvK k | none => 0) = _
  rw [kOf_csem]

omit [FloatOps F] in
/-- A device may wait on a semaphore all whose outstanding payments are of higher level. -/
theorem mayWait_of (c : Dev nD) (sm : SemLoc sig) (n : ℕ) (h : ∀ i : Fin 15, n ≤ i.val → lv ((c : Thread nD τ), sm) () < lvK (tk (ot i))) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp])
    (fun g u hg => by obtain ⟨i, hi, rfl⟩ := owed_pos hg; rw [lv_kcell]; exact h i hi)

omit [FloatOps F] in
theorem mayWait_k (c : Dev nD) (k : Fin 24) (n : ℕ) (h : ∀ i : Fin 15, n ≤ i.val → lvK k < lvK (tk (ot i))) :
    (levAts L lv : sProp 𝕄) ⊢ MayWait (c : Thread nD τ) (csem k) () (owed c n) :=
  mayWait_of c (csem k) n fun i hi => by rw [lv_kcell]; exact h i hi

/-- What device `c` owes after `n` payments, whatever it has waited on. -/
def owesE (c : Dev nD) (n : ℕ) : sProp 𝕄 := iprop(∃ W, owes (c : Thread nD τ) (owed c n) W)

/-! ## The cells' invariants, known everywhere -/

/-- Every cell's invariant under the name `K` gives it, and that its first round is open. -/
def records (K : Dev nD × Fin 24 → ℕ) : sProp 𝕄 :=
  bigSep Finset.univ fun ck : Dev nD × Fin 24 => iprop(cellInv ER (Rd m) (K ck) (kcell ck) ∗ reached ER (kcell ck) 0)

instance records_persistent (K : Dev nD × Fin 24 → ℕ) : BI.Persistent (records (F := F) m K) := by
  unfold records; infer_instance

theorem rec_at (K : Dev nD × Fin 24 → ℕ) (c : Dev nD) (k : Fin 24) :
    records (F := F) m K ⊢ iprop(cellInv ER (Rd m) (K (c, k)) (kcell (c, k)) ∗ reached ER (kcell (c, k)) 0) := by
  unfold records
  exact bigSep_elim (Finset.mem_univ (c, k))

end Cert.Mesh

end
-- ==== Proof.Steps.lean ====
/- One lemma per kind of memory operation of the kernel's body, over blocks held with their contents. -/
module

public import proofs.«01_k».proof.Proof.Proto
public import Idealize.ShloMosaic.Lib.VecWindow

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` on device `c`, to post-condition `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem
variable {c : Dev nD} {s : Shape} {e : EltTy} {M : Memref sig .tc .vmem s e} {q : PosShare TreeShare}

/-- A load of a rectangle of a block reads the block's value there. -/
theorem wp_ld {α : Type} {Q : α → sProp 𝕄} {r : Rect s} {hl : M.view.LoadsAt r.toLoadRect} {X : s.Idx → Elt F e} {k : (r.shape.Idx → Elt F e) → Prog (TpuEff nD τ sig (Elt F) Λ₀ .tc) α} :
    sl c M q X ⊢ iprop((sl c M q X -∗ wpc c (k fun j => X (r.emb j)) Q) -∗ wpc c (.op (.load M r.toLoadRect hl) k) Q) := by
  unfold sl
  iintro ⟨%f, %h, H⟩ Hk
  iapply (wp_load_rect 𝒱₀ (c : Thread nD τ) none Set.univ (m := M) (r := r) (View.set_slice_subset _ _)) $$ H
  iintro H
  have hX : (M.access r).read (Elt F) f = fun j => X (r.emb j) := by rw [← h]; rfl
  rw [hX]
  iapply Hk
  iexists f; isplitr; · ipureintro; exact h
  iexact H

/-- A load of one block of a buffer, that block held. -/
theorem wp_ld_block {α : Type} {Q : α → sProp 𝕄} {r : Rect s} {hl : M.view.LoadsAt r.toLoadRect} (hr : ∀ a, r.stride a = 1) {X : r.shape.Idx → Elt F e}
    {k : (r.shape.Idx → Elt F e) → Prog (TpuEff nD τ sig (Elt F) Λ₀ .tc) α} :
    sl c (M.slice r hr) q X ⊢ iprop((sl c (M.slice r hr) q X -∗ wpc c (k X) Q) -∗ wpc c (.op (.load M r.toLoadRect hl) k) Q) := by
  unfold sl
  iintro ⟨%f, %h, H⟩ Hk
  iapply (wp_load_rect 𝒱₀ (c : Thread nD τ) none Set.univ (m := M) (r := r) (S := (M.slice r hr).view.set) (Finset.Subset.refl _)) $$ H
  iintro H
  have hX : (M.access r).read (Elt F) f = X := h
  rw [hX]
  iapply Hk
  iexists f; isplitr; · ipureintro; exact h
  iexact H

/-- The same whatever it holds: the value read is unknown. -/
theorem wp_ld_any {α : Type} {Q : α → sProp 𝕄} {r : Rect s} {hl : M.view.LoadsAt r.toLoadRect} (hr : ∀ a, r.stride a = 1)
    {k : (r.shape.Idx → Elt F e) → Prog (TpuEff nD τ sig (Elt F) Λ₀ .tc) α} :
    slE c (M.slice r hr) ⊢ iprop((∀ v, slE c (M.slice r hr) -∗ wpc c (k v) Q) -∗ wpc c (.op (.load M r.toLoadRect hl) k) Q) := by
  unfold slE
  iintro ⟨%f, H⟩ Hk
  iapply (wp_load_rect 𝒱₀ (c : Thread nD τ) none Set.univ (m := M) (r := r) (S := (M.slice r hr).view.set) (Finset.Subset.refl _)) $$ H
  iintro H
  iapply Hk
  iexists f; iexact H

/-- A store of one block of a buffer, that block held. -/
theorem wp_st_block {α : Type} {Q : α → sProp 𝕄} {r : Rect s} (hr : ∀ a, r.stride a = 1) {w : r.shape.Idx → Elt F e} {hx : (M.access r).Stores Finset.univ}
    {hm : Finset.univ = Finset.univ ∨ ∀ a, r.stride a = 1} {k : PUnit → Prog (TpuEff nD τ sig (Elt F) Λ₀ .tc) α} :
    slE c (M.slice r hr) ⊢ iprop((sl c (M.slice r hr) fullShare w -∗ wpc c (k ⟨⟩) Q) -∗ wpc c (.op (.store M r w Finset.univ hx hm) k) Q) := by
  unfold slE sl
  iintro ⟨%f, H⟩ Hk
  iapply (wp_store 𝒱₀ (c : Thread nD τ) none Set.univ (m := M) (r := r) (Mk := Finset.univ) (S := (M.slice r hr).view.set) (Finset.Subset.refl _)) $$ H
  iintro H
  iapply Hk
  iexists _; isplitr
  swap; · iexact H
  ipureintro; exact View.read_write_univ _ _

omit [FloatOps F] in
/-- A squeezed block is the block, its value under the other shape; -/
theorem sl_squeeze {s' : Shape} (h : s.Squeezes s') (X : s'.Idx → Elt F e) :
    (sl c (M.squeeze s' h) q X : sProp 𝕄) = sl c M q (fun j => X (Shape.reshapeEquiv h.numel_eq.symm j)) := by
  have hset : (M.squeeze s' h).view.set = M.view.set := View.set_reshape (v := M.view) h.numel_eq
  have hread : ∀ f, (M.squeeze s' h).view.read (Elt F) f = X ↔ M.view.read (Elt F) f = fun j => X (Shape.reshapeEquiv h.numel_eq.symm j) := by
    refine fun f => ⟨fun hf => ?_, fun hf => ?_⟩
    · funext j; rw [← hf]
      show _ = M.view.read (Elt F) f (Shape.reshapeEquiv h.numel_eq ((Shape.reshapeEquiv h.numel_eq).symm j))
      rw [Equiv.apply_symm_apply]
    · funext j
      show M.view.read (Elt F) f (Shape.reshapeEquiv h.numel_eq j) = _
      rw [hf]
      show X ((Shape.reshapeEquiv h.numel_eq).symm (Shape.reshapeEquiv h.numel_eq j)) = _
      rw [Equiv.symm_apply_apply]
  unfold sl
  simp only [hread, hset]

omit [FloatOps F] in
theorem slE_squeeze {s' : Shape} (h : s.Squeezes s') : (slE c (M.squeeze s' h) : sProp 𝕄) = slE c M := by
  have hset : (M.squeeze s' h).view.set = M.view.set := View.set_reshape (v := M.view) h.numel_eq
  unfold slE
  simp only [hset]

/-- A load of a whole block reads its value. -/
theorem wp_ld_all {α : Type} {Q : α → sProp 𝕄} {off : Fin s.rank → ℕ} {inb : ∀ a, off a + s.size a ≤ s.size a} {hl : M.view.LoadsAt (Rect.unit off s.size inb).toLoadRect} {X : s.Idx → Elt F e}
    {k : (s.Idx → Elt F e) → Prog (TpuEff nD τ sig (Elt F) Λ₀ .tc) α} :
    sl c M q X ⊢ iprop((sl c M q X -∗ wpc c (k X) Q) -∗ wpc c (.op (.load M (Rect.unit off s.size inb).toLoadRect hl) k) Q) := by
  have h : (fun j => X ((Rect.unit off s.size inb).emb j)) = X := funext fun j => congrArg X (Rect.emb_unit_full inb j)
  iintro H Hk
  iapply (wp_ld (r := Rect.unit off s.size inb) (hl := hl) (k := k)) $$ H
  iintro H
  rw [h]
  iapply Hk; iexact H

/-- A store at a rectangle of a block: its value there is what was stored, elsewhere what it was. -/
theorem wp_st {α : Type} {Q : α → sProp 𝕄} {r : Rect s} {X : s.Idx → Elt F e} {w : r.shape.Idx → Elt F e} {hx : (M.access r).Stores Finset.univ}
    {hm : Finset.univ = Finset.univ ∨ ∀ a, r.stride a = 1} {k : PUnit → Prog (TpuEff nD τ sig (Elt F) Λ₀ .tc) α} :
    sl c M fullShare X ⊢ iprop((∀ X', ⌜(∀ j, X' (r.emb j) = w j) ∧ ∀ i, i ∉ r.set → X' i = X i⌝ -∗ sl c M fullShare X' -∗ wpc c (k ⟨⟩) Q)
      -∗ wpc c (.op (.store M r w Finset.univ hx hm) k) Q) := by
  unfold sl
  iintro ⟨%f, %h, H⟩ Hk
  iapply (wp_store 𝒱₀ (c : Thread nD τ) none Set.univ (m := M) (r := r) (Mk := Finset.univ) (S := M.view.set) (View.set_slice_subset _ _)) $$ H
  iintro H
  iapply Hk $$ %(M.view.read (Elt F) ((M.access r).write (Elt F) f w Finset.univ)) []
  · ipureintro
    refine ⟨fun j => View.read_slice_write_emb _ _ _ (Finset.mem_univ j), fun i hi => ?_⟩
    rw [View.read_slice_write_of_not_mem r f w Finset.univ (fun hm' => hi ?_), h]
    obtain ⟨j, -, rfl⟩ := Finset.mem_map.mp hm'
    rw [← Rect.map_emb_univ]; exact Finset.mem_map_of_mem _ (Finset.mem_univ j)
  iexists _; isplitr
  swap; · iexact H
  ipureintro; rfl

/-- A store over a whole block. -/
theorem wp_st_all {α : Type} {Q : α → sProp 𝕄} {off : Fin s.rank → ℕ} {inb : ∀ a, off a + s.size a ≤ s.size a} {w : s.Idx → Elt F e}
    {hx : (M.access (Rect.unit off s.size inb)).Stores Finset.univ}
    {hm : Finset.univ = Finset.univ ∨ ∀ a, (Rect.unit off s.size inb).stride a = 1} {k : PUnit → Prog (TpuEff nD τ sig (Elt F) Λ₀ .tc) α} :
    slE c M ⊢ iprop((sl c M fullShare w -∗ wpc c (k ⟨⟩) Q) -∗ wpc c (.op (.store M (Rect.unit off s.size inb) w Finset.univ hx hm) k) Q) := by
  unfold slE
  iintro ⟨%f, H⟩ Hk
  iapply (wp_st (c := c) (M := M) (r := Rect.unit off s.size inb) (X := M.view.read (Elt F) f) (w := w) (hx := hx) (hm := hm) (k := k)) $$ [H]
  · unfold sl; iexists f; isplitr; · ipureintro; rfl
    iexact H
  iintro %X' %hX' H
  iapply Hk
  have hXw : X' = w := funext fun j => by rw [← hX'.1 j]; exact congrArg X' (Rect.emb_unit_full inb j).symm
  subst hXw
  iexact H

/-- A load of a whole block of unknown value. -/
theorem wp_ld_anyall {α : Type} {Q : α → sProp 𝕄} {off : Fin s.rank → ℕ} {inb : ∀ a, off a + s.size a ≤ s.size a} {hl : M.view.LoadsAt (Rect.unit off s.size inb).toLoadRect}
    {k : (s.Idx → Elt F e) → Prog (TpuEff nD τ sig (Elt F) Λ₀ .tc) α} :
    slE c M ⊢ iprop((∀ v, slE c M -∗ wpc c (k v) Q) -∗ wpc c (.op (.load M (Rect.unit off s.size inb).toLoadRect hl) k) Q) := by
  unfold slE
  iintro ⟨%f, H⟩ Hk
  iapply (wp_ld_all (c := c) (M := M) (q := fullShare) (X := M.view.read (Elt F) f) (hl := hl) (k := k)) $$ [H]
  · unfold sl; iexists f; isplitr; · ipureintro; rfl
    iexact H
  iintro H
  iapply Hk
  ihave H' := sl_any $$ H
  unfold slE
  iexact H'

end Mem

/-! ## The output, group by group -/

/-- Device `c`'s output buffer, group `wF c + d` of it holding `H d`. -/
def outR (c : Dev nD) (H : Fin 4 → Vec F S4x64x1024 .f32) : sProp 𝕄 :=
  iprop(∃ X : Vec F S16x64x1024 .f32, ⌜∀ d j, X ((rg (wF c + d)).emb j) = H d j⌝ ∗ sl c oM fullShare X)

theorem rg_val (g : Fin 4) (j : (rg g).shape.Idx) (a : Fin 3) : ((rg g).emb j a : ℕ) = go g a + (j a : ℕ) := by
  rw [Rect.emb_apply]; show go g a + 1 * _ = _; rw [one_mul]
theorem rh_val (g : Fin 4) (b : Fin 2) (j : (rh g b).shape.Idx) (a : Fin 3) : ((rh g b).emb j a : ℕ) = ho g b a + (j a : ℕ) := by
  rw [Rect.emb_apply]; show ho g b a + 1 * _ = _; rw [one_mul]

/-- Distinct groups have no element in common; -/
theorem rg_not_mem {g g' : Fin 4} (h : g ≠ g') (j : (rg g).shape.Idx) : (rg g).emb j ∉ (rg g').set := fun hm => by
  have h0 := (Rect.mem_set_unit.mp hm) (0 : Fin 3)
  rw [rg_val] at h0
  have hj : (j (0 : Fin 3)).val < 4 := (j (0 : Fin 3)).isLt
  have h1 : 4 * g'.val ≤ 4 * g.val + (j (0 : Fin 3)).val := h0.1
  have h2 : 4 * g.val + (j (0 : Fin 3)).val < 4 * g'.val + 4 := h0.2
  exact h (Fin.ext (by omega))
/-- an element of a half is the element of the group it is at; -/
theorem rh_emb (g : Fin 4) (b : Fin 2) (j : (rh g b).shape.Idx) : (rh g b).emb j = (rg g).emb (ix3 (hl b (j (0 : Fin 3))) (j (1 : Fin 3)) (j (2 : Fin 3))) := by
  funext a; refine Fin.ext ?_
  rw [rh_val, rg_val]
  match a with
  | ⟨0, _⟩ => exact Nat.add_assoc _ _ _
  | ⟨1, _⟩ => rfl
  | ⟨2, _⟩ => rfl
/-- and an element of the other half, or of another group, is not in it. -/
theorem rh_not_mem {g g' : Fin 4} {b : Fin 2} (j : (rg g).shape.Idx) (h : g ≠ g' ∨ hi (j (0 : Fin 3)) ≠ b) : (rg g).emb j ∉ (rh g' b).set := fun hm => by
  have h0 := (Rect.mem_set_unit.mp hm) (0 : Fin 3)
  rw [rg_val] at h0
  have hj : (j (0 : Fin 3)).val < 4 := (j (0 : Fin 3)).isLt
  have h1 : 4 * g'.val + 2 * b.val ≤ 4 * g.val + (j (0 : Fin 3)).val := h0.1
  have h2 : 4 * g.val + (j (0 : Fin 3)).val < 4 * g'.val + 2 * b.val + 2 := h0.2
  have hg : g = g' := Fin.ext (by omega)
  rcases h with h | h
  · exact h hg
  · subst hg; exact h (Fin.ext (by show _ / 2 = _; omega))

section Out
variable {c : Dev nD} {H : Fin 4 → Vec F S4x64x1024 .f32}

/-- A load of a group; -/
theorem wp_ld_g {α : Type} {Q : α → sProp 𝕄} (d : Fin 4) {off : Fin 3 → ℕ} {inb : ∀ a, off a + S4x64x1024.size a ≤ S16x64x1024.size a} (ho : off = go (wF c + d))
    {hl : oM.view.LoadsAt (Rect.unit (s := S16x64x1024) off S4x64x1024.size inb).toLoadRect}
    {k : (S4x64x1024.Idx → Elt F .f32) → Prog (TpuEff nD τ sig (Elt F) Λ₀ .tc) α} :
    outR c H ⊢ iprop((outR c H -∗ wpc c (k (H d)) Q) -∗ wpc c (.op (.load oM (Rect.unit (s := S16x64x1024) off S4x64x1024.size inb).toLoadRect hl) k) Q) := by
  subst ho
  unfold outR
  iintro ⟨%X, %hX, Ho⟩ Hk
  iapply (wp_ld (c := c) (M := oM) (r := rg (wF c + d)) (hl := hl) (k := k)) $$ Ho
  iintro Ho
  rw [show (fun j => X ((rg (wF c + d)).emb j)) = H d from funext (hX d)]
  iapply Hk
  iexists X; isplitr; · ipureintro; exact hX
  iexact Ho

/-- the same, the value under a name of its own; -/
theorem wp_ld_gv {α : Type} {Q : α → sProp 𝕄} (d : Fin 4) (v : Vec F S4x64x1024 .f32) (hv : H d = v) {off : Fin 3 → ℕ} {inb : ∀ a, off a + S4x64x1024.size a ≤ S16x64x1024.size a} (ho : off = go (wF c + d))
    {hl : oM.view.LoadsAt (Rect.unit (s := S16x64x1024) off S4x64x1024.size inb).toLoadRect}
    {k : (S4x64x1024.Idx → Elt F .f32) → Prog (TpuEff nD τ sig (Elt F) Λ₀ .tc) α} :
    outR c H ⊢ iprop((outR c H -∗ wpc c (k v) Q) -∗ wpc c (.op (.load oM (Rect.unit (s := S16x64x1024) off S4x64x1024.size inb).toLoadRect hl) k) Q) := by
  subst hv; exact wp_ld_g d ho

/-- of half a group; -/
theorem wp_ld_h {α : Type} {Q : α → sProp 𝕄} (d : Fin 4) (b : Fin 2) {off : Fin 3 → ℕ} {inb : ∀ a, off a + S2x64x1024.size a ≤ S16x64x1024.size a} (ho : off = ho (wF c + d) b)
    {hl : oM.view.LoadsAt (Rect.unit (s := S16x64x1024) off S2x64x1024.size inb).toLoadRect}
    {k : (S2x64x1024.Idx → Elt F .f32) → Prog (TpuEff nD τ sig (Elt F) Λ₀ .tc) α} :
    outR c H ⊢ iprop((outR c H -∗ wpc c (k (half b (H d))) Q) -∗ wpc c (.op (.load oM (Rect.unit (s := S16x64x1024) off S2x64x1024.size inb).toLoadRect hl) k) Q) := by
  subst ho
  unfold outR
  iintro ⟨%X, %hX, Ho⟩ Hk
  iapply (wp_ld (c := c) (M := oM) (r := rh (wF c + d) b) (hl := hl) (k := k)) $$ Ho
  iintro Ho
  rw [show (fun j => X ((rh (wF c + d) b).emb j)) = half b (H d) from funext fun j => by rw [rh_emb, hX]; rfl]
  iapply Hk
  iexists X; isplitr; · ipureintro; exact hX
  iexact Ho

theorem wp_ld_hv {α : Type} {Q : α → sProp 𝕄} (d : Fin 4) (b : Fin 2) (v : Vec F S2x64x1024 .f32) (hv : half b (H d) = v) {off : Fin 3 → ℕ} {inb : ∀ a, off a + S2x64x1024.size a ≤ S16x64x1024.size a} (ho : off = ho (wF c + d) b)
    {hl : oM.view.LoadsAt (Rect.unit (s := S16x64x1024) off S2x64x1024.size inb).toLoadRect}
    {k : (S2x64x1024.Idx → Elt F .f32) → Prog (TpuEff nD τ sig (Elt F) Λ₀ .tc) α} :
    outR c H ⊢ iprop((outR c H -∗ wpc c (k v) Q) -∗ wpc c (.op (.load oM (Rect.unit (s := S16x64x1024) off S2x64x1024.size inb).toLoadRect hl) k) Q) := by
  subst hv; exact wp_ld_h d b ho

/-- a store of a group; -/
theorem wp_st_g {α : Type} {Q : α → sProp 𝕄} (d : Fin 4) (H' : Fin 4 → Vec F S4x64x1024 .f32) {w : Vec F S4x64x1024 .f32} (hw : H' d = w) (hn : ∀ d', d' ≠ d → H' d' = H d')
    {off : Fin 3 → ℕ} {inb : ∀ a, off a + S4x64x1024.size a ≤ S16x64x1024.size a} (ho : off = go (wF c + d))
    {hx : (oM.access (Rect.unit (s := S16x64x1024) off S4x64x1024.size inb)).Stores Finset.univ}
    {hm : Finset.univ = Finset.univ ∨ ∀ a, (Rect.unit (s := S16x64x1024) off S4x64x1024.size inb).stride a = 1}
    {k : PUnit → Prog (TpuEff nD τ sig (Elt F) Λ₀ .tc) α} :
    outR c H ⊢ iprop((outR c H' -∗ wpc c (k ⟨⟩) Q)
      -∗ wpc c (.op (.store oM (Rect.unit (s := S16x64x1024) off S4x64x1024.size inb) w Finset.univ hx hm) k) Q) := by
  subst ho
  unfold outR
  iintro ⟨%X, %hX, Ho⟩ Hk
  iapply (wp_st (c := c) (M := oM) (r := rg (wF c + d)) (w := w) (hx := hx) (hm := hm) (k := k)) $$ Ho
  iintro %X' %hX' Ho
  iapply Hk
  iexists X'; isplitr
  · ipureintro; intro d' j
    by_cases hd : d' = d
    · subst hd; rw [hX'.1 j, hw]
    · rw [hX'.2 _ (rg_not_mem (fun h => hd (add_left_cancel h)) j), hX, hn d' hd]
  iexact Ho

/-- of half a group. -/
theorem wp_st_h {α : Type} {Q : α → sProp 𝕄} (d : Fin 4) (b : Fin 2) (H' : Fin 4 → Vec F S4x64x1024 .f32) {w : Vec F S2x64x1024 .f32} (hw : H' d = setHalf b (H d) w)
    (hn : ∀ d', d' ≠ d → H' d' = H d')
    {off : Fin 3 → ℕ} {inb : ∀ a, off a + S2x64x1024.size a ≤ S16x64x1024.size a} (ho : off = ho (wF c + d) b)
    {hx : (oM.access (Rect.unit (s := S16x64x1024) off S2x64x1024.size inb)).Stores Finset.univ}
    {hm : Finset.univ = Finset.univ ∨ ∀ a, (Rect.unit (s := S16x64x1024) off S2x64x1024.size inb).stride a = 1}
    {k : PUnit → Prog (TpuEff nD τ sig (Elt F) Λ₀ .tc) α} :
    outR c H ⊢ iprop((outR c H' -∗ wpc c (k ⟨⟩) Q)
      -∗ wpc c (.op (.store oM (Rect.unit (s := S16x64x1024) off S2x64x1024.size inb) w Finset.univ hx hm) k) Q) := by
  subst ho
  unfold outR
  iintro ⟨%X, %hX, Ho⟩ Hk
  iapply (wp_st (c := c) (M := oM) (r := rh (wF c + d) b) (w := w) (hx := hx) (hm := hm) (k := k)) $$ Ho
  iintro %X' %hX' Ho
  iapply Hk
  iexists X'; isplitr
  · ipureintro; intro d' j
    by_cases hd : d' = d
    · subst hd
      rw [hw]
      unfold setHalf
      by_cases hb : hi (j (0 : Fin 3)) = b
      · rw [if_pos hb, ← hX'.1, rh_emb]
        congr 2
        rw [eq_ix3 j]
        refine congrArg (fun a => ix3 a _ _) (Fin.ext ?_)
        subst hb
        show (j (0 : Fin 3)).val = 2 * ((j (0 : Fin 3)).val / 2) + (j (0 : Fin 3)).val % 2
        omega
      · rw [if_neg hb, hX'.2 _ (rh_not_mem j (.inr hb)), hX]
    · rw [hX'.2 _ (rh_not_mem j (.inl fun h => hd (add_left_cancel h))), hX, hn d' hd]
  iexact Ho

end Out

end Cert.Mesh

end
-- ==== Proof.Moves.lean ====
/- One lemma per kind of transfer, signal and wait of the kernel's body, and the loads and stores of one slot of a buffer. -/
module

public import proofs.«01_k».proof.Proof.Steps

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots -/

theorem uns4_sqz4 (w : Vec F S1x4x64x1024 .bf16) : uns4 (sqz4 w) = w := by
  unfold uns4 sqz4; funext j
  show w (Shape.reshapeEquiv _ (Shape.reshapeEquiv _ j)) = w j
  rw [Shape.reshapeEquiv_reshapeEquiv, Shape.reshapeEquiv_self]

section Slots
variable {c : Dev nD} {q : PosShare TreeShare}

omit [FloatOps F] in
theorem sl_slot4 (M : Memref sig .tc .vmem S3x4x64x1024 .bf16) (s : Fin 3) (X : Vec F S4x64x1024 .bf16) :
    (sl c (slot4 M s) q X : sProp 𝕄) = sl c (M.slice (rc4 s) (fun _ => rfl)) q (uns4 X) :=
  sl_squeeze _ X
omit [FloatOps F] in
theorem sl_slot2 (M : Memref sig .tc .vmem S3x2x64x1024 .bf16) (s : Fin 3) (X : Vec F S2x64x1024 .bf16) :
    (sl c (slot2 M s) q X : sProp 𝕄) = sl c (M.slice (rc2 s) (fun _ => rfl)) q (uns2 X) :=
  sl_squeeze _ X
omit [FloatOps F] in
theorem slE_slot4 (M : Memref sig .tc .vmem S3x4x64x1024 .bf16) (s : Fin 3) :
    (slE c (slot4 M s) : sProp 𝕄) = slE c (M.slice (rc4 s) (fun _ => rfl)) :=
  slE_squeeze _

/-- A load of a slot, its block held; -/
theorem wp_ld_slot4 {α : Type} {Q : α → sProp 𝕄} (M : Memref sig .tc .vmem S3x4x64x1024 .bf16) (s : Fin 3) {X : Vec F S4x64x1024 .bf16}
    {hl : M.view.LoadsAt (rc4 s).toLoadRect} {k : ((rc4 s).shape.Idx → Elt F .bf16) → Prog (TpuEff nD τ sig (Elt F) Λ₀ .tc) α} :
    sl c (slot4 M s) q X ⊢ iprop((sl c (slot4 M s) q X -∗ wpc c (k (uns4 X)) Q) -∗ wpc c (.op (.load M (rc4 s).toLoadRect hl) k) Q) := by
  rw [sl_slot4]
  exact wp_ld_block (fun _ => rfl)
theorem wp_ld_slot2 {α : Type} {Q : α → sProp 𝕄} (M : Memref sig .tc .vmem S3x2x64x1024 .bf16) (s : Fin 3) {X : Vec F S2x64x1024 .bf16}
    {hl : M.view.LoadsAt (rc2 s).toLoadRect} {k : ((rc2 s).shape.Idx → Elt F .bf16) → Prog (TpuEff nD τ sig (Elt F) Λ₀ .tc) α} :
    sl c (slot2 M s) q X ⊢ iprop((sl c (slot2 M s) q X -∗ wpc c (k (uns2 X)) Q) -∗ wpc c (.op (.load M (rc2 s).toLoadRect hl) k) Q) := by
  rw [sl_slot2]
  exact wp_ld_block (fun _ => rfl)
/-- of a slot of unknown value; -/
theorem wp_ld_slot4_any {α : Type} {Q : α → sProp 𝕄} (M : Memref sig .tc .vmem S3x4x64x1024 .bf16) (s : Fin 3)
    {hl : M.view.LoadsAt (rc4 s).toLoadRect} {k : ((rc4 s).shape.Idx → Elt F .bf16) → Prog (TpuEff nD τ sig (Elt F) Λ₀ .tc) α} :
    slE c (slot4 M s) ⊢ iprop((∀ v, slE c (slot4 M s) -∗ wpc c (k v) Q) -∗ wpc c (.op (.load M (rc4 s).toLoadRect hl) k) Q) := by
  rw [slE_slot4]
  exact wp_ld_any (fun _ => rfl)
/-- a store over a slot. -/
theorem wp_st_slot4 {α : Type} {Q : α → sProp 𝕄} (M : Memref sig .tc .vmem S3x4x64x1024 .bf16) (s : Fin 3) {w : Vec F S1x4x64x1024 .bf16} {X : Vec F S4x64x1024 .bf16} (hX : sqz4 w = X)
    {hx : (M.access (rc4 s)).Stores Finset.univ} {hm : Finset.univ = Finset.univ ∨ ∀ a, (rc4 s).stride a = 1}
    {k : PUnit → Prog (TpuEff nD τ sig (Elt F) Λ₀ .tc) α} :
    slE c (slot4 M s) ⊢ iprop((sl c (slot4 M s) fullShare X -∗ wpc c (k ⟨⟩) Q) -∗ wpc c (.op (.store M (rc4 s) w Finset.univ hx hm) k) Q) := by
  subst hX
  rw [slE_slot4, sl_slot4, uns4_sqz4]
  exact wp_st_block (fun _ => rfl)
end Slots

omit [FloatOps F] in
theorem sl_of {sp : Space} {s : Shape} {e : EltTy} {c : Dev nD} {M : Memref sig .tc sp s e} {q : PosShare TreeShare} {X : s.Idx → Elt F e}
    {f : Buf (Elt F) (M.view.loc (c : Thread nD τ))} (h : M.view.read (Elt F) f = X) :
    (M.view.loc (c : Thread nD τ) ↦[M.view.set]{q} f) ⊢ (sl c M q X : sProp 𝕄) := by
  unfold sl; iintro H; iexists f; isplitr; · ipureintro; exact h
  iexact H

/-! ## Waits, transfers, signals -/

variable (m : (ℓ : Loc nD τ sig) → Buf (Elt F) ℓ) (K : Dev nD × Fin 24 → ℕ)

/-- What every device knows throughout: the cells' invariants and the levels. -/
def env : sProp 𝕄 := iprop(records m K ∗ levAts L lv)
instance env_persistent : BI.Persistent (env (F := F) m K) := by unfold env; infer_instance

/-- The token of device `c`'s duty `j`, and its place in its own cell `k`. -/
def tok (c : Dev nD) (j : Fin 28) : sProp 𝕄 := dutyTok ER (kcell (peer j c, tk j)) (tr j) (td j)
def pos (c : Dev nD) (k : Fin 24) (r : ℕ) : sProp 𝕄 := atPos ER (kcell (c, k)) r ∅ 0
def crd (c : Dev nD) (k : Fin 24) : sProp 𝕄 := cred (tallyAt (kcell (c, k)) () (need k))

section Ops
variable {sp sp' : Space} {s : Shape} {e : EltTy}

/-- A wait on a transfer's cell for all its round brings: the round's payload. -/
theorem wp_wt {α : Type} {Q : α → sProp 𝕄} (c : Dev nD) (k : Fin 24) (r n : ℕ) {sm : DmaSem sig} {src : Memref sig .tc sp s e} {dst : Memref sig .tc sp' s e}
    {hs : src.view.WordExact} {hd : dst.view.WordExact} {k' : PUnit → Prog (TpuEff nD τ sig (Elt F) Λ₀ .tc) α}
    (hsm : csem k = .dma sm) (hk : k.val ≠ 0) (hr : r < rnds k) (hN : dst.view.dmaCredit = amt k)
    (hl : ∀ i : Fin 15, n ≤ i.val → lvK k < lvK (tk (ot i))) (r' : ℕ) (hr' : r' = r + 1) (X : sProp 𝕄) (hX : pay m c k r 0 ⊢ X) :
    env m K ⊢ iprop(crd c k -∗ owesE c n -∗ pos c k r
      -∗ ((owesE c n -∗ pos c k r' -∗ reached ER (kcell (c, k)) r' -∗ X -∗ wpc c (k' ⟨⟩) Q)
        -∗ wpc c (.op (.waitDma2 sm src dst hs hd) k') Q)) := by
  subst hr'
  have e1 : kcell (c, k) = ((c : Thread nD τ), .dma sm) := by show (_, csem k) = _; rw [hsm]
  have hneed : need k = amt k := if_neg hk
  unfold env crd owesE pos
  rw [hneed, ← hN]
  iintro ⟨#HR, #HL⟩ Hc ⟨%W, Ho⟩ Ha Hk
  ihave Hcell := (rec_at m K c k) $$ HR
  icases Hcell with ⟨#Hi, -⟩
  ihave Hm := (mayWait_k (F := F) c k n hl) $$ HL
  have hrest := Rd_rest (F := F) m c hr hk
  have hex := Rd_expect (F := F) m c hr
  rw [e1] at hrest hex
  rw [e1, hsm]
  iapply (Rounds.wp_wait_rest_token 𝒱₀ ER (Rd m) (c : Thread nD τ) none (κ := K (c, k))
      (wpE_waitDma2_eq 𝒱₀ (c : Thread nD τ) none Set.univ) (Set.mem_univ _) () (O := owed c n) (W := W) (R := r) (m := 0) (T := ∅)
      (by rw [Nat.zero_add, hex, hneed, hN])) $$ [Hc Ho Ha Hm]
  · isplitr; · iexact Hi
    isplitl [Hc]; · iexact Hc
    isplitl [Ho]; · iexact Ho
    isplitl [Hm]; · iexact Hm
    iexact Ha
  iintro ⟨Ho, Ha, Hrch, Hp⟩
  ihave Hp' := ((Entails.of_eq hrest).trans hX) $$ Hp
  iapply Hk $$ [Ho] Ha Hrch Hp'
  iexists _; iexact Ho

/-- The wait on the barrier: the four neighbours' payloads. -/
theorem wp_wt_bar {α : Type} {Q : α → sProp 𝕄} (c : Dev nD) {k' : PUnit → Prog (TpuEff nD τ sig (Elt F) Λ₀ .tc) α} :
    env m K ⊢ iprop(crd c 0 -∗ owesE c 4 -∗ pos c 0 0
      -∗ ((owesE c 4 -∗ pos c 0 1 -∗ iprop(barPay c 0 ∗ barPay c 1 ∗ barPay c 2 ∗ barPay c 3) -∗ wpc c (k' ⟨⟩) Q)
        -∗ wpc c (.op (.semWait barS (4#32).toInt) k') Q)) := by
  have e0 : kcell (c, 0) = ((c : Thread nD τ), .reg barS) := rfl
  have hex := Rd_expect (F := F) m c (k := 0) (r := 0) (by decide)
  have hrest := Rd_rest_bar (F := F) m c
  rw [e0] at hex hrest
  unfold env crd owesE pos
  rw [e0]
  iintro ⟨#HR, #HL⟩ Hc ⟨%W, Ho⟩ Ha Hk
  ihave Hcell := (rec_at m K c 0) $$ HR
  icases Hcell with ⟨#Hi, -⟩
  ihave Hm := (mayWait_k (F := F) c 0 4 (by decide)) $$ HL
  iapply (Rounds.wp_wait_rest_token 𝒱₀ ER (Rd m) (c : Thread nD τ) none (κ := K (c, 0)) (k' := 4)
      (wpE_semWait_eq 𝒱₀ (c : Thread nD τ) none Set.univ) (Set.mem_univ _) () (O := owed c 4) (W := W) (R := 0) (m := 0) (T := ∅)
      (by rw [Nat.zero_add]; exact hex.symm)) $$ [Hc Ho Ha Hm]
  · isplitr; · iexact Hi
    isplitl [Hc]; · iexact Hc
    isplitl [Ho]; · iexact Ho
    isplitl [Hm]; · iexact Hm
    iexact Ha
  iintro ⟨Ho, Ha, Hrch, Hp⟩
  ihave Hp' := (Entails.of_eq hrest) $$ Hp
  iapply Hk $$ [Ho] Ha Hp'
  iexists _; iexact Ho

/-- A send, device `c`'s `i`-th payment: both cells' duties paid, the source's credit to come back for. -/
theorem wp_snd {α : Type} {Q : α → sProp 𝕄} (c n : Dev nD) (i : Fin 15) (j j' : Fin 28) (k : Fin 24) (r n₀ n₁ : ℕ) {X : s.Idx → Elt F e} {q : PosShare TreeShare}
    {src dst : Memref sig .tc .vmem s e} {sS sR : DmaSem sig}
    {hsc : (dst : Memref sig (Dev.tc n : Thread nD τ).2.kind .vmem s e).view.ref.isScScratch = false} {hsrc : src.view.WordExact} {hdst : dst.view.WordExact}
    {hsem : DmaTarget.Typed .vmem (.dma sR) (.remote (Dev.tc n : Thread nD τ) dst (.dma sS) hsc)} {k' : PUnit → Prog (TpuEff nD τ sig (Elt F) Λ₀ .tc) α}
    (hn : n = peer (ot i) c) (hi : 4 ≤ i.val) (hp : peer j c = c) (hj : 4 ≤ j.val) (hs : csem (tk j) = .dma sS) (hR : csem (tk (ot i)) = .dma sR)
    (hN : dst.view.dmaCredit = amt (tk (ot i))) (hN' : amt (tk j) = amt (tk (ot i)))
    (hpay₁ : sl c src q X ⊢ pay m c (tk j) (tr j) 0) (hpay₂ : sl n dst fullShare X ⊢ pay m n (tk (ot i)) 0 0)
    (hji : j' = ot i) (hkj : k = tk j) (hrj : r = tr j) (hn₀ : n₀ = i.val) (hn₁ : n₁ = i.val + 1) :
    env m K ⊢ iprop(sl c src q X -∗ slE n dst -∗ owesE c n₀ -∗ tok c j -∗ reached ER (kcell (c, k)) r -∗ tok c j'
      -∗ ((crd c k -∗ owesE c n₁ -∗ wpc c (k' ⟨⟩) Q)
        -∗ wpc c (.op (.enqueueDma src (.remote (Dev.tc n : Thread nD τ) dst (.dma sS) hsc) (.dma sR) hsrc hdst hsem) k') Q)) := by
  subst hn hji hkj hrj hn₀ hn₁
  have e1 : kcell (c, tk j) = ((c : Thread nD τ), .dma sS) := by show (_, csem _) = _; rw [hs]
  have e2 : kcell (peer (ot i) c, tk (ot i)) = ((peer (ot i) c : Thread nD τ), .dma sR) := by show (_, csem _) = _; rw [hR]
  obtain ⟨hk0, hr0, hd0⟩ := (by decide : ∀ j : Fin 28, 4 ≤ j.val → (tk j).val ≠ 0 ∧ tr j < rnds (tk j) ∧ td j = 0) j hj
  have ht := (by decide : ∀ i : Fin 15, 4 ≤ i.val → tr (ot i) = 0 ∧ td (ot i) = 0 ∧ 0 < rnds (tk (ot i))) i hi
  have hneed : need (tk j) = amt (tk (ot i)) := (if_neg hk0).trans hN'
  have hd₁ := mem_dut (d := 0) hr0 (.inr rfl); rw [← Rd_duties (F := F) m c, e1] at hd₁
  have hd₂ := mem_dut (d := 0) ht.2.2 (.inr rfl); rw [← Rd_duties (F := F) m (peer (ot i) c), e2] at hd₂
  have ha₁ := Rd_amount (F := F) m c (tk j) (tr j) 0; rw [e1, hN', ← hN] at ha₁
  have ha₂ := Rd_amount (F := F) m (peer (ot i) c) (tk (ot i)) 0 0; rw [e2, ← hN] at ha₂
  have hw₁ := Rd_payload (F := F) m c (tk j) (tr j) 0; rw [e1] at hw₁
  have hw₂ := Rd_payload (F := F) m (peer (ot i) c) (tk (ot i)) 0 0; rw [e2] at hw₂
  have hO := owed_succ c i
  unfold env crd owesE tok
  rw [hp, hneed, hd0, ht.1, ht.2.1]
  iintro ⟨#HR, #HL⟩ Hs Hd ⟨%W, Ho⟩ Htj Hrj Hti Hk
  ihave Hcell := (rec_at m K c (tk j)) $$ HR
  icases Hcell with ⟨#Hi, -⟩
  ihave Hcell := (rec_at m K (peer (ot i) c) (tk (ot i))) $$ HR
  icases Hcell with ⟨#Hi2, #Hr2⟩
  unfold sl slE
  icases Hs with ⟨%fs, %hfs, Hs⟩
  icases Hd with ⟨%fd, Hd⟩
  rw [e1, e2]
  unfold oa oc at hO
  rw [e2, ← hN] at hO
  rw [← hN]
  iapply (Rounds.wp_send_pointsTo 𝒱₀ ER (Rd m) (c : Thread nD τ) none (κ₁ := K (c, tk j)) (κ₂ := K (peer (ot i) c, tk (ot i)))
    (r₁ := tr j) (r₂ := 0) (d₁ := 0) (d₂ := 0) (fd := fd) (fs := fs) (q := q) hd₁ hd₂ () () dst.view.dmaCredit rfl ha₁ ha₂ (owed c (i.val + 1)) hO (W := W)
    (by rw [hw₁]; exact (sl_of hfs).trans hpay₁)
    (by rw [hw₂]; exact (sl_of ((View.read_write_univ _ _).trans hfs)).trans hpay₂)) $$ [Hs Hd Ho Htj Hrj Hti]
  · isplitr; · iexact Hi
    isplitr; · iexact Hi2
    isplitl [Hs]; · iexact Hs
    isplitl [Hd]; · iexact Hd
    isplitl [Ho]; · iexact Ho
    isplitl [Htj]; · iexact Htj
    isplitl [Hrj]; · iexact Hrj
    isplitl [Hti]; · iexact Hti
    iexact Hr2
  iintro ⟨Hc, Ho⟩
  iapply Hk $$ Hc [Ho]
  iexists _; iexact Ho

/-- The local copy of the device's keys or values. -/
theorem wp_cp {α : Type} {Q : α → sProp 𝕄} (c : Dev nD) (j : Fin 28) (k : Fin 24) {src : Memref sig .tc .hbm S4x1024x256 .f32} {dst : Memref sig .tc .vmem S4x1024x256 .f32}
    {sm : DmaSem sig} {f : Buf (Elt F) (src.view.loc (c : Thread nD τ))}
    {hsrc : src.view.WordExact} {hdst : dst.view.WordExact} {hsem : DmaTarget.Typed (nD := nD) (τ := τ) (sig := sig) (p := .tc) .hbm (.dma sm) (.here dst)}
    {k' : PUnit → Prog (TpuEff nD τ sig (Elt F) Λ₀ .tc) α}
    (hp : peer j c = c) (hj : 4 ≤ j.val ∧ j.val < 27) (hs : csem (tk j) = .dma sm) (hN : dst.view.dmaCredit = amt (tk j))
    (hpay : kvPay c dst src (src.view.read (Elt F) f) f ⊢ pay m c (tk j) 0 0) (hkj : k = tk j) :
    env m K ⊢ iprop((src.view.loc (c : Thread nD τ) ↦[src.view.set]{fullShare} f) -∗ slE c dst -∗ tok c j
      -∗ ((crd c k -∗ wpc c (k' ⟨⟩) Q)
        -∗ wpc c (.op (.enqueueDma src (.here dst) (.dma sm) hsrc hdst hsem) k') Q)) := by
  subst hkj
  have e1 : kcell (c, tk j) = ((c : Thread nD τ), .dma sm) := by show (_, csem _) = _; rw [hs]
  have hk := (by decide : ∀ j : Fin 28, 4 ≤ j.val ∧ j.val < 27 → (tk j).val ≠ 0 ∧ tr j = 0 ∧ td j = 0 ∧ 0 < rnds (tk j)) j hj
  have hneed : need (tk j) = amt (tk j) := if_neg hk.1
  have hd₁ := mem_dut (d := 0) hk.2.2.2 (.inr rfl); rw [← Rd_duties (F := F) m c, e1] at hd₁
  have ha₁ := Rd_amount (F := F) m c (tk j) 0 0; rw [e1, ← hN] at ha₁
  have hw₁ := Rd_payload (F := F) m c (tk j) 0 0; rw [e1] at hw₁
  unfold env crd tok
  rw [hp, hneed, hk.2.1, hk.2.2.1]
  iintro ⟨#HR, #HL⟩ Hs Hd Ht Hk
  ihave Hcell := (rec_at m K c (tk j)) $$ HR
  icases Hcell with ⟨#Hi, #Hr⟩
  unfold slE
  icases Hd with ⟨%fd, Hd⟩
  rw [e1, ← hN]
  iapply (Rounds.wp_copy_pointsTo 𝒱₀ ER (Rd m) (c : Thread nD τ) none (κ := K (c, tk j)) (r := 0) (d := 0) (fd := fd) (fs := f) hd₁ () dst.view.dmaCredit rfl ha₁
    (q := fullShare) (by rw [hw₁]; exact (sep_mono_left (sl_of (View.read_write_univ _ _))).trans hpay)) $$ [Hs Hd Ht]
  · isplitr; · iexact Hi
    isplitl [Hs]; · iexact Hs
    isplitl [Hd]; · iexact Hd
    isplitl [Ht]; · iexact Ht
    iexact Hr
  iexact Hk

/-- A signal to a neighbour's barrier, handing over what the neighbour is to write into. -/
theorem wp_sg {α : Type} {Q : α → sProp 𝕄} (c n : Dev nD) (i : Fin 15) (j : Fin 28) (n₀ n₁ : ℕ) (X : sProp 𝕄) {k' : PUnit → Prog (TpuEff nD τ sig (Elt F) Λ₀ .tc) α}
    (hi : i.val < 4) (hn : n = peer (ot i) c) (hji : j = ot i) (hn₀ : n₀ = i.val) (hn₁ : n₁ = i.val + 1) (hX : X ⊢ barPay n i.val) :
    env m K ⊢ iprop(X -∗ owesE c n₀ -∗ tok c j
      -∗ ((owesE c n₁ -∗ wpc c (k' ⟨⟩) Q)
        -∗ wpc c (.op (.semSignal (n : Thread nD τ) barS (1#32).toInt) k') Q)) := by
  subst hn hji hn₀ hn₁
  have ht := (by decide : ∀ i : Fin 15, i.val < 4 → tk (ot i) = 0 ∧ tr (ot i) = 0 ∧ (td (ot i)).val = i.val) i hi
  have hO := owed_succ c i
  have e0 : kcell (peer (ot i) c, 0) = ((peer (ot i) c : Thread nD τ), .reg barS) := rfl
  have hpp : (Rd (F := F) m).payload (kcell (peer (ot i) c, 0)) 0 (td (ot i)) = barPay (peer (ot i) c) (td (ot i)).val :=
    Rd_payload (F := F) m (peer (ot i) c) 0 0 (td (ot i))
  have hdd := Rd_duties (F := F) m (peer (ot i) c) 0 0
  have haa := Rd_amount (F := F) m (peer (ot i) c) 0 0 (td (ot i))
  unfold oc oa at hO
  unfold env tok owesE
  rw [ht.1, e0] at hO
  rw [e0] at hpp hdd haa
  rw [ht.1, ht.2.1, e0]
  rw [← ht.2.2] at hX
  iintro ⟨#HR, #HL⟩ Hb ⟨%W, Ho⟩ Ht Hk
  ihave Hcell := (rec_at m K (peer (ot i) c) 0) $$ HR
  icases Hcell with ⟨#Hi, #Hr⟩
  iapply (Rounds.wp_signal 𝒱₀ ER (Rd m) (c : Thread nD τ) none (dst := (peer (ot i) c : Thread nD τ)) (κ := K (peer (ot i) c, 0)) (r := 0)
      (d := td (ot i)) (k' := 1) (by rw [hdd]; exact mem_dut _ (by decide) (.inl rfl)) haa () (owed c (i.val + 1)) hO (W := W))
    $$ [Hb Ho Ht]
  · isplitr; · iexact Hi
    isplitl [Ho]; · iexact Ho
    isplitl [Ht]; · iexact Ht
    isplitl [Hb]
    · iapply (hX.trans (Entails.of_eq hpp.symm)); iexact Hb
    iexact Hr
  iintro Ho
  iapply Hk
  iexists _; iexact Ho

end Ops

end Cert.Mesh

end
-- ==== Proof.BodyA.lean ====
/- The kernel's body on one device, part by part, up to the first exchange's sends: the copies in, the barrier, and the
   device's product for its first batch group. -/
module

public import proofs.«01_k».proof.Proof.Moves

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

universe u in
/-- A part of the kernel's body, over the buffers and semaphores of this call. -/
abbrev ap {β : Sort u} (p : (a0 : Memref sig .tc .vmem S1024x1024 .f32) → a0.IsWhole
    → (a1 : Memref sig .tc .vmem S1024x1024 .f32) → a1.IsWhole
    → (a2 : Memref sig .tc .vmem S1024x1024 .f32) → a2.IsWhole
    → (a3 : Memref sig .tc .hbm S4x1024x4096 .f32) → a3.IsWhole
    → (a4 : Memref sig .tc .hbm S4x1024x4096 .f32) → a4.IsWhole
    → (a5 : Memref sig .tc .vmem S16x64x1024 .f32) → a5.IsWhole
    → (a6 : Memref sig .tc .vmem S1024x1024 .bf16) → a6.IsWhole
    → (a7 : Memref sig .tc .vmem S1024x1024 .bf16) → a7.IsWhole
    → (a8 : Memref sig .tc .vmem S4x1024x256 .f32) → a8.IsWhole
    → (a9 : Memref sig .tc .vmem S4x1024x256 .f32) → a9.IsWhole
    → (a10 : Memref sig .tc .vmem S3x4x64x1024 .bf16) → a10.IsWhole
    → (a11 : Memref sig .tc .vmem S4x64x1024 .bf16) → a11.IsWhole
    → (a12 : Memref sig .tc .vmem S3x4x64x1024 .bf16) → a12.IsWhole
    → (a13 : Memref sig .tc .vmem S4x64x1024 .bf16) → a13.IsWhole
    → (a14 : Memref sig .tc .vmem S4x64x1024 .bf16) → a14.IsWhole
    → (a15 : Memref sig .tc .vmem S2x64x1024 .bf16) → a15.IsWhole
    → (a16 : Memref sig .tc .vmem S2x64x1024 .bf16) → a16.IsWhole
    → (a17 : Memref sig .tc .vmem S3x2x64x1024 .bf16) → a17.IsWhole
    → (a18 : Memref sig .tc .vmem S3x2x64x1024 .bf16) → a18.IsWhole
    → DmaSems sig Cert.KernelIdeal.S2 → DmaSems sig S3 → DmaSems sig S3 → DmaSems sig S_ → DmaSems sig Cert.KernelIdeal.S2 → DmaSems sig S3 → DmaSems sig S3 → DmaSems sig S3 → DmaSems sig S3 → β) : β :=
  p xM (Memref.isWhole_whole _) qM (Memref.isWhole_whole _) pM (Memref.isWhole_whole _) KM (Memref.isWhole_whole _) VM (Memref.isWhole_whole _) oM (Memref.isWhole_whole _) wqM (Memref.isWhole_whole _) woM (Memref.isWhole_whole _) kM (Memref.isWhole_whole _) vM (Memref.isWhole_whole _) stM (Memref.isWhole_whole _) psM (Memref.isWhole_whole _) rsM (Memref.isWhole_whole _) zAM (Memref.isWhole_whole _) zBM (Memref.isWhole_whole _) gRM (Memref.isWhole_whole _) gLM (Memref.isWhole_whole _) aRM (Memref.isWhole_whole _) aLM (Memref.isWhole_whole _) cc0_scratch13 cc0_scratch14 cc0_scratch15 cc0_scratch16 cc0_scratch17 cc0_scratch18 cc0_scratch19 cc0_scratch20 cc0_scratch21

theorem vec_ne0 {α : Type} (a a' b c d : α) : ∀ i, i ≠ 0 → (![a', b, c, d] : Fin 4 → α) i = ![a, b, c, d] i
  | 0, h => absurd rfl h | 1, _ => rfl | 2, _ => rfl | 3, _ => rfl
theorem vec_ne1 {α : Type} (a b b' c d : α) : ∀ i, i ≠ 1 → (![a, b', c, d] : Fin 4 → α) i = ![a, b, c, d] i
  | 1, h => absurd rfl h | 0, _ => rfl | 2, _ => rfl | 3, _ => rfl
theorem vec_ne2 {α : Type} (a b c c' d : α) : ∀ i, i ≠ 2 → (![a, b, c', d] : Fin 4 → α) i = ![a, b, c, d] i
  | 2, h => absurd rfl h | 0, _ => rfl | 1, _ => rfl | 3, _ => rfl
theorem vec_ne3 {α : Type} (a b c d d' : α) : ∀ i, i ≠ 3 → (![a, b, c, d'] : Fin 4 → α) i = ![a, b, c, d] i
  | 3, h => absurd rfl h | 0, _ => rfl | 1, _ => rfl | 2, _ => rfl

variable (m : (ℓ : Loc nD τ sig) → Buf (Elt F) ℓ) (K : Dev nD × Fin 24 → ℕ)

theorem reach0 (c : Dev nD) (k : Fin 24) : env m K ⊢ reached ER (kcell (c, k)) 0 := by
  unfold env
  iintro ⟨#HR, -⟩
  ihave H := (rec_at m K c k) $$ HR
  icases H with ⟨-, #H⟩
  iexact H

/-- The keys', or the values', columns device `c` copies, as its argument holds them. -/
def kvSrc (c : Dev nD) (M : Memref sig .tc .hbm S4x1024x256 .f32) (f : Buf (Elt F) (M.view.loc (c : Thread nD τ))) : sProp 𝕄 :=
  (M.view.loc (c : Thread nD τ) ↦[M.view.set]{fullShare} f)

variable {Kt : Type}

/-- A program that only returns. -/
theorem wp_rt {α : Type} {c : Dev nD} {a : α} {Q : α → sProp 𝕄} : Q a ⊢ wpc c (.ret a) Q := by
  unfold wpc
  iintro H
  rw [wp_ret]; imodintro
  iexact H

theorem part1 (c : Dev nD) {Q : (Σ' (_ : Dev nD) (_ : BitVec 32) (_ : BitVec 32) (_ : BitVec 32) (_ : BitVec 32) (_ : BitVec 32), BitVec 1) → sProp 𝕄} :
    iprop(∀ v2 v19 v29 v31 v32 v37, Q ⟨c, v2, v19, v29, v31, v32, v37⟩) ⊢ wpc c (ap (k0_part1 (F := F))) Q := by
  unfold ap
  rw [k0_part1_eq_skeleton]; unfold k0_part1_skel
  simp only [Prog.lift, Prog.bind_op, Prog.bind_ret, Prog.pure_eq_ret, wp_deviceId]
  iintro H
  iapply wp_rt
  iapply H

theorem part2 (c : Dev nD) (v19 v29 v31 v32 : BitVec 32) (v37 : BitVec 1) {Q : (Σ' (_ : BitVec 32) (_ : BitVec 32) (_ : BitVec 32) (_ : BitVec 32) (_ : BitVec 32), BitVec 1) → sProp 𝕄} :
    iprop(∀ v39 v66 v67 v70 v71 v76, Q ⟨v39, v66, v67, v70, v71, v76⟩) ⊢ wpc c (ap (k0_part2 (F := F)) v19 v29 v31 v32 v37) Q := by
  unfold ap
  rw [k0_part2_eq_skeleton]; unfold k0_part2_skel
  simp only [Prog.pure_eq_ret]
  iintro H
  iapply wp_rt
  iapply H

theorem part3 (c : Dev nD) (v2 v19 v29 v39 v66 v67 v70 v71 : BitVec 32) (v76 : BitVec 1) {Q : (Σ' (_ : BitVec 32) (_ : BitVec 32) (_ : BitVec 32) (_ : BitVec 32) (_ : FVec F S1024x1024 .bf16), Vec F S1024x1024 .bf16) → sProp 𝕄} :
    env m K ⊢ iprop(kvSrc c (kvS KM c) (m ((c : Thread nD τ).loc main_arg3)) -∗ kvSrc c (kvS VM c) (m ((c : Thread nD τ).loc main_arg4))
      -∗ slE c kM -∗ slE c vM -∗ tok c 4 -∗ tok c 5 -∗ sl c qM fullShare (qv m c) -∗ slE c wqM
      -∗ (∀ v79 v92 v95 v98 v110, crd c 1 -∗ crd c 2 -∗ sl c qM fullShare (qv m c) -∗ slE c wqM -∗ Q ⟨v79, v92, v95, v98, k0_pay1 (qv m c), v110⟩)
      -∗ wpc c (ap (k0_part3 (F := F)) c v2 v19 v29 v39 v66 v67 v70 v71 v76) Q) := by
  unfold ap
  rw [k0_part3_eq_skeleton]; unfold k0_part3_skel
  simp only [Prog.lift, Prog.bind_op, Prog.bind_ret, Prog.pure_eq_ret]
  unfold kvSrc
  iintro #HE HsK HsV Hk Hv Ht4 Ht5 Hq Hw H
  iapply (wp_cp m K c 4 1 (src := kvS KM c) (dst := kM) rfl (by decide) rfl rfl (Entails.of_eq rfl) rfl) $$ HE HsK Hk Ht4
  iintro Hc1
  iapply (wp_cp m K c 5 2 (src := kvS VM c) (dst := vM) rfl (by decide) rfl rfl (Entails.of_eq rfl) rfl) $$ HE HsV Hv Ht5
  iintro Hc2
  iapply (wp_ld_all (c := c) (M := qM)) $$ Hq
  iintro Hq
  iapply (wp_ld_anyall (c := c) (M := wqM)) $$ Hw
  iintro %v Hw
  iapply wp_rt
  iapply H $$ Hc1 Hc2 Hq Hw

theorem part4 (c : Dev nD) (v29 v79 v92 v95 v98 : BitVec 32) (v110 : Vec F S1024x1024 .bf16) {Q : PUnit → sProp 𝕄} :
    env m K ⊢ iprop(slE c wqM -∗ sl c pM fullShare (pv m c) -∗ slE c woM -∗ owesE c 0 -∗ tok c 0 -∗ tok c 1 -∗ tok c 2 -∗ tok c 3
      -∗ iprop(slE c (slot4 rsM 0) ∗ slE c (slot4 rsM 1) ∗ slE c (slot4 rsM 2) ∗ slE c (slot2 aRM 0) ∗ slE c (slot2 aRM 1) ∗ slE c (slot2 aRM 2))
      -∗ iprop(slE c (slot2 aLM 0) ∗ slE c (slot2 aLM 1) ∗ slE c (slot2 aLM 2)) -∗ slE c zAM -∗ slE c zBM
      -∗ crd c 0 -∗ crd c 1 -∗ crd c 2 -∗ pos c 0 0 -∗ pos c 1 0 -∗ pos c 2 0
      -∗ (sl c wqM fullShare (wqv m c) -∗ sl c pM fullShare (pv m c) -∗ sl c woM fullShare (wov m c) -∗ owesE c 4
        -∗ pos c 0 1 -∗ pos c 1 1 -∗ pos c 2 1
        -∗ iprop(barPay c 0 ∗ barPay c 1 ∗ barPay c 2 ∗ barPay c 3)
        -∗ kvPay c kM (kvS KM c) (kv m c) (m ((c : Thread nD τ).loc main_arg3))
        -∗ kvPay c vM (kvS VM c) (vv m c) (m ((c : Thread nD τ).loc main_arg4)) -∗ Q ⟨⟩)
      -∗ wpc c (ap (k0_part4 (F := F)) c v29 v79 v92 v95 v98 (k0_pay1 (qv m c)) v110) Q) := by
  unfold ap
  rw [k0_part4_eq_skeleton]; unfold k0_part4_skel
  simp only [semSignalWord, semWaitWord, Prog.lift, Prog.bind_op, Prog.bind_ret, Prog.pure_eq_ret]
  iintro #HE Hwq Hp Hwo Ho Ht0 Ht1 Ht2 Ht3 HR HL HA HB Hc0 Hc1 Hc2 Ha0 Ha1 Ha2 H
  iapply (wp_st_all (c := c) (M := wqM) (w := wqv m c)) $$ Hwq
  iintro Hwq
  iapply (wp_ld_all (c := c) (M := pM)) $$ Hp
  iintro Hp
  iapply (wp_ld_anyall (c := c) (M := woM)) $$ Hwo
  iintro %v Hwo
  iapply (wp_st_all (c := c) (M := woM) (w := wov m c)) $$ Hwo
  iintro Hwo
  iapply (wp_sg m K c _ 0 0 0 1 iprop(slE c (slot4 rsM 0) ∗ slE c (slot4 rsM 1) ∗ slE c (slot4 rsM 2) ∗ slE c (slot2 aRM 0) ∗ slE c (slot2 aRM 1) ∗ slE c (slot2 aRM 2))
    (by decide) (dev1_eq c) rfl rfl rfl (Entails.of_eq (by rw [dev1_eq]; show _ = barPay (wl c) 0; unfold barPay; simp only [wr_wl]))) $$ HE HR Ho Ht0
  iintro Ho
  iapply (wp_sg m K c _ 1 1 1 2 iprop(slE c (slot2 aLM 0) ∗ slE c (slot2 aLM 1) ∗ slE c (slot2 aLM 2))
    (by decide) (dev2_eq c) rfl rfl rfl (Entails.of_eq (by rw [dev2_eq]; show _ = barPay (wr c) 1; unfold barPay; simp only [wl_wr]))) $$ HE HL Ho Ht1
  iintro Ho
  iapply (wp_sg m K c _ 2 2 2 3 (slE c zAM)
    (by decide) (dev3_eq c) rfl rfl rfl (Entails.of_eq (by rw [dev3_eq]; show _ = barPay (pA c) 2; unfold barPay; simp only [pA_pA]))) $$ HE HA Ho Ht2
  iintro Ho
  iapply (wp_sg m K c _ 3 3 3 4 (slE c zBM)
    (by decide) (dev4_eq c) rfl rfl rfl (Entails.of_eq (by rw [dev4_eq]; show _ = barPay (pB c) 3; unfold barPay; simp only [pB_pB]))) $$ HE HB Ho Ht3
  iintro Ho
  iapply (wp_wt_bar m K c) $$ HE Hc0 Ho Ha0
  iintro Ho Ha0 Hbar
  iapply (wp_wt m K c 1 0 4 (dst := kM) rfl (by decide) (by decide) rfl (by decide) 1 rfl (kvPay c kM (kvS KM c) (kv m c) (m ((c : Thread nD τ).loc main_arg3))) (Entails.of_eq rfl)) $$ HE Hc1 Ho Ha1
  iintro Ho Ha1 - Hk
  iapply (wp_wt m K c 2 0 4 (dst := vM) rfl (by decide) (by decide) rfl (by decide) 1 rfl (kvPay c vM (kvS VM c) (vv m c) (m ((c : Thread nD τ).loc main_arg4))) (Entails.of_eq rfl)) $$ HE Hc2 Ho Ha2
  iintro Ho Ha2 - Hv
  iapply wp_rt
  iapply H $$ Hwq Hp Hwo Ho Ha0 Ha1 Ha2 Hbar Hk Hv

/-! ## Loads of the working buffers, batch group by batch group -/

/-- The staged rows, the query weights and the copied keys and values. -/
def inp (c : Dev nD) : sProp 𝕄 :=
  iprop(sl c xM fullShare (xv m c) ∗ sl c wqM fullShare (wqv m c) ∗ sl c kM fullShare (kv m c) ∗ sl c vM fullShare (vv m c))

theorem wp_ld_x {α : Type} {Q : α → sProp 𝕄} (c : Dev nD) (g : Fin 4) {off : Fin 2 → ℕ} {inb : ∀ a, off a + S256x1024.size a ≤ S1024x1024.size a} (ho : off = xo g)
    {hl : xM.view.LoadsAt (Rect.unit (s := S1024x1024) off S256x1024.size inb).toLoadRect}
    {k : (S256x1024.Idx → Elt F .f32) → Prog (TpuEff nD τ sig (Elt F) Λ₀ .tc) α} :
    inp m c ⊢ iprop((inp m c -∗ wpc c (k (xg m c g)) Q) -∗ wpc c (.op (.load xM (Rect.unit (s := S1024x1024) off S256x1024.size inb).toLoadRect hl) k) Q) := by
  subst ho
  unfold inp
  iintro ⟨Hx, Hr⟩ Hk
  iapply (wp_ld (c := c) (M := xM) (r := rx g)) $$ Hx
  iintro Hx
  iapply Hk
  isplitl [Hx]; · iexact Hx
  iexact Hr

theorem wp_ld_wq {α : Type} {Q : α → sProp 𝕄} (c : Dev nD) {off : Fin 2 → ℕ} {inb : ∀ a, off a + S1024x1024.size a ≤ S1024x1024.size a}
    {hl : wqM.view.LoadsAt (Rect.unit (s := S1024x1024) off S1024x1024.size inb).toLoadRect}
    {k : (S1024x1024.Idx → Elt F .bf16) → Prog (TpuEff nD τ sig (Elt F) Λ₀ .tc) α} :
    inp m c ⊢ iprop((inp m c -∗ wpc c (k (wqv m c)) Q) -∗ wpc c (.op (.load wqM (Rect.unit (s := S1024x1024) off S1024x1024.size inb).toLoadRect hl) k) Q) := by
  unfold inp
  iintro ⟨Hx, Hq, Hr⟩ Hk
  iapply (wp_ld_all (c := c) (M := wqM)) $$ Hq
  iintro Hq
  iapply Hk
  isplitl [Hx]; · iexact Hx
  isplitl [Hq]; · iexact Hq
  iexact Hr

theorem wp_ld_k {α : Type} {Q : α → sProp 𝕄} (c : Dev nD) (g : Fin 4) {off : Fin 3 → ℕ} {inb : ∀ a, off a + S1x1024x256.size a ≤ S4x1024x256.size a} (ho : off = ko g)
    {hl : kM.view.LoadsAt (Rect.unit (s := S4x1024x256) off S1x1024x256.size inb).toLoadRect}
    {k : (S1x1024x256.Idx → Elt F .f32) → Prog (TpuEff nD τ sig (Elt F) Λ₀ .tc) α} :
    inp m c ⊢ iprop((inp m c -∗ wpc c (k (kg m c g)) Q) -∗ wpc c (.op (.load kM (Rect.unit (s := S4x1024x256) off S1x1024x256.size inb).toLoadRect hl) k) Q) := by
  subst ho
  unfold inp
  iintro ⟨Hx, Hq, Hk', Hr⟩ Hk
  iapply (wp_ld (c := c) (M := kM) (r := rk g)) $$ Hk'
  iintro Hk'
  iapply Hk
  isplitl [Hx]; · iexact Hx
  isplitl [Hq]; · iexact Hq
  isplitl [Hk']; · iexact Hk'
  iexact Hr

theorem wp_ld_v {α : Type} {Q : α → sProp 𝕄} (c : Dev nD) (g : Fin 4) {off : Fin 3 → ℕ} {inb : ∀ a, off a + S1x1024x256.size a ≤ S4x1024x256.size a} (ho : off = ko g)
    {hl : vM.view.LoadsAt (Rect.unit (s := S4x1024x256) off S1x1024x256.size inb).toLoadRect}
    {k : (S1x1024x256.Idx → Elt F .f32) → Prog (TpuEff nD τ sig (Elt F) Λ₀ .tc) α} :
    inp m c ⊢ iprop((inp m c -∗ wpc c (k (vg m c g)) Q) -∗ wpc c (.op (.load vM (Rect.unit (s := S4x1024x256) off S1x1024x256.size inb).toLoadRect hl) k) Q) := by
  subst ho
  unfold inp
  iintro ⟨Hx, Hq, Hk', Hv⟩ Hk
  iapply (wp_ld (c := c) (M := vM) (r := rk g)) $$ Hv
  iintro Hv
  iapply Hk
  isplitl [Hx]; · iexact Hx
  isplitl [Hq]; · iexact Hq
  isplitl [Hk']; · iexact Hk'
  iexact Hv

/-! ## The first batch group, and its send -/

theorem part5 (c : Dev nD) (v29 : BitVec 32)
    {Q : (Σ' (_ : FVec F S256x1024 .f32) (_ : FVec F S1024x256 .bf16) (_ : FVec F S1024x256 .bf16) (_ : FVec F S256x128 .f32) (_ : FVec F S256x1024 .f32), FVec F S256x1 .f32) → sProp 𝕄} :
    inp m c ⊢ iprop((inp m c -∗ Q ⟨k0_pay4 (xg m c (wF c)) (wqv m c), k0_pay5 (kg m c (wF c)), k0_pay6 (vg m c (wF c)),
        k0_pay7 (xg m c (wF c)) (wqv m c) (kg m c (wF c)) (vg m c (wF c)), k0_pay8 (xg m c (wF c)) (wqv m c) (kg m c (wF c)),
        k0_pay9 (xg m c (wF c)) (wqv m c) (kg m c (wF c))⟩)
      -∗ wpc c (ap (k0_part5 (F := F)) c v29) Q) := by
  unfold ap
  rw [k0_part5_eq_skeleton]; unfold k0_part5_skel
  simp only [Prog.lift, Prog.bind_op, Prog.bind_ret, Prog.pure_eq_ret]
  iintro Hi H
  iapply (wp_ld_x m c (wF c) (off2_eq c)) $$ Hi
  iintro Hi
  iapply (wp_ld_wq m c) $$ Hi
  iintro Hi
  iapply (wp_ld_k m c (wF c) (off3_eq c)) $$ Hi
  iintro Hi
  iapply (wp_ld_v m c (wF c) (off3_eq c)) $$ Hi
  iintro Hi
  iapply wp_rt
  iapply H $$ Hi

theorem part6 (c : Dev nD) (v140 : FVec F S256x1024 .f32) (v144 v148 : FVec F S1024x256 .bf16) (v177 : FVec F S256x1024 .f32) (v179 : FVec F S256x1 .f32)
    {Q : (Σ' (_ : FVec F S256x128 .f32) (_ : FVec F S256x128 .f32) (_ : FVec F S256x128 .f32), FVec F S256x1024 .f32) → sProp 𝕄} :
    Q ⟨k0_pay10 v148 v177 v179, k0_pay11 v140 v144 v148, k0_pay12 v140 v144 v148, k0_pay13 v140 v144⟩
      ⊢ wpc c (ap (k0_part6 (F := F)) v140 v144 v148 v177 v179) Q := by
  unfold ap
  rw [k0_part6_eq_skeleton]
  exact wp_rt

theorem part7 (c : Dev nD) (v140 : FVec F S256x1024 .f32) (v144 v148 : FVec F S1024x256 .bf16) (v226 : FVec F S256x1024 .f32)
    {Q : (Σ' (_ : FVec F S256x128 .f32) (_ : FVec F S256x128 .f32) (_ : FVec F S256x128 .f32), FVec F S256x128 .f32) → sProp 𝕄} :
    Q ⟨k0_pay14 v148 v226, k0_pay15 v140 v144 v148, k0_pay17 v140 v144 v148, k0_pay18 v140 v144⟩
      ⊢ wpc c (ap (k0_part7 (F := F)) v140 v144 v148 v226) Q := by
  unfold ap
  rw [k0_part7_eq_skeleton]
  exact wp_rt

/-- The first group's product is stored. -/
theorem part8 (c : Dev nD) (v29 : BitVec 32) (v140 : FVec F S256x1024 .f32) (v144 v148 : FVec F S1024x256 .bf16)
    (v166 v184 v202 v220 v238 v256 v272 v273 : FVec F S256x128 .f32) (G : Vec F S4x64x1024 .f32)
    (hG : k0_pay19 v140 v144 v148 v166 v184 v202 v220 v238 v256 v272 v273 (wov m c) = G) {a₀ a₁ a₂ a₃ : Vec F S4x64x1024 .f32}
    {Q : (Σ' (_ : BitVec 32), BitVec 32) → sProp 𝕄} :
    sl c woM fullShare (wov m c) ⊢ iprop(outR c ![a₀, a₁, a₂, a₃]
      -∗ (∀ v312 v313, sl c woM fullShare (wov m c) -∗ outR c ![G, a₁, a₂, a₃] -∗ Q ⟨v312, v313⟩)
      -∗ wpc c (ap (k0_part8 (F := F)) c v29 v140 v144 v148 v166 v184 v202 v220 v238 v256 v272 v273) Q) := by
  unfold ap
  rw [k0_part8_eq_skeleton]; unfold k0_part8_skel
  simp only [Prog.lift, Prog.bind_op, Prog.bind_ret, Prog.pure_eq_ret]
  iintro Hw Ho H
  iapply (wp_ld_all (c := c) (M := woM)) $$ Hw
  iintro Hw
  iapply (wp_ld_g (c := c) 0 ((off4_eq c).trans (by rw [add_zero]))) $$ Ho
  iintro Ho
  iapply (wp_st_g (c := c) 0 ![G, a₁, a₂, a₃] hG.symm (vec_ne0 _ _ _ _ _) ((off4_eq c).trans (by rw [add_zero]))) $$ Ho
  iintro Ho
  iapply wp_rt
  iapply H $$ Hw Ho

/-- The first send of the first exchange. -/
theorem part9 (c : Dev nD) (v29 v79 v312 v313 : BitVec 32) {a₁ a₂ a₃ : Vec F S4x64x1024 .f32}
    {Q : BitVec 32 → sProp 𝕄} :
    env m K ⊢ iprop(outR c ![P m c (wF c), a₁, a₂, a₃] -∗ slE c (slot4 stM 0) -∗ slE (wr c) (slot4 rsM 0) -∗ owesE c 4 -∗ tok c 6 -∗ tok c 9
      -∗ (∀ w, outR c ![P m c (wF c), a₁, a₂, a₃] -∗ crd c 3 -∗ owesE c 5 -∗ Q w)
      -∗ wpc c (ap (k0_part9 (F := F)) c v29 v79 v312 v313) Q) := by
  unfold ap
  rw [k0_part9_eq_skeleton]; unfold k0_part9_skel
  simp only [Prog.lift, Prog.bind_op, Prog.bind_ret, Prog.pure_eq_ret]
  iintro #HE Ho Hs Hd HO Ht Ht' H
  iapply (wp_ld_g (c := c) 0 ((off5_eq 0 c).trans (by rw [show Fin.castSucc (0 : Fin 3) = (0 : Fin 4) from rfl, sub_zero, add_zero]))) $$ Ho
  iintro Ho
  iapply (wp_ld_slot4_any (c := c) stM 0) $$ Hs
  iintro %v Hs
  iapply (wp_st_slot4 (c := c) stM 0 (X := S0 m c) rfl) $$ Hs
  iintro Hs
  ihave #Hr := (reach0 m K c 3) $$ HE
  iapply (wp_snd m K c _ 4 6 9 3 0 4 5 (X := S0 m c) (src := slot4 stM 0) (dst := slot4 rsM 0) (dev5_eq c) (by decide) rfl (by decide) rfl rfl rfl rfl
    sl_any (by rw [dev5_eq]; exact Entails.of_eq (by show _ = sl (wr c) (slot4 rsM 0) fullShare (S0 m (wl (wr c))); rw [wl_wr])) rfl rfl rfl rfl rfl) $$ HE Hs [Hd] HO Ht Hr Ht'
  · rw [dev5_eq]; iexact Hd
  iintro Hc HO
  iapply wp_rt
  iapply H $$ Ho Hc HO

end Cert.Mesh

end
-- ==== Proof.BodyB.lean ====
/- The kernel's body on one device, part by part: the first exchange, each landing added to the device's product for the
   batch group that arrives, and the sum sent on. -/
module

public import proofs.«01_k».proof.Proof.BodyA

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 24 → ℕ)

/-! ## Where the parts load and store -/

theorem off5_at (c : Dev nD) : k0_off5 c 0#32 = go (wF c + 0) ∧ k0_off5 c 1#32 = go (wF c + 3) ∧ k0_off5 c 2#32 = go (wF c + 2) := by
  revert c; decide +kernel
theorem off6_at (c : Dev nD) : k0_off6 c 0#32 = xo (wF c + 3) ∧ k0_off6 c 1#32 = xo (wF c + 2) ∧ k0_off6 c 2#32 = xo (wF c + 1) := by
  revert c; decide +kernel
theorem off7_at (c : Dev nD) : k0_off7 c 0#32 = ko (wF c + 3) ∧ k0_off7 c 1#32 = ko (wF c + 2) ∧ k0_off7 c 2#32 = ko (wF c + 1) := by
  revert c; decide +kernel
theorem off8_at (c : Dev nD) : k0_off8 c 0#32 = go (wF c + 3) ∧ k0_off8 c 1#32 = go (wF c + 2) ∧ k0_off8 c 2#32 = go (wF c + 1) := by
  revert c; decide +kernel

/-! ## The second batch group -/

theorem part10 (c : Dev nD) (v343 : BitVec 32)
    {Q : (Σ' (_ : FVec F S256x1024 .f32) (_ : FVec F S1024x256 .bf16) (_ : FVec F S1024x256 .bf16) (_ : FVec F S256x128 .f32), FVec F S256x1024 .f32) → sProp 𝕄} :
    inp m c ⊢ iprop((inp m c -∗ Q ⟨k0_pay21 (xg m c (wF c + 3)) (wqv m c), k0_pay22 (kg m c (wF c + 3)), k0_pay23 (vg m c (wF c + 3)),
        k0_pay24 (xg m c (wF c + 3)) (wqv m c) (kg m c (wF c + 3)) (vg m c (wF c + 3)), k0_pay25 (xg m c (wF c + 3)) (wqv m c) (kg m c (wF c + 3))⟩)
      -∗ wpc c (ap (k0_part10 (F := F)) c v343) Q) := by
  unfold ap
  rw [k0_part10_eq_skeleton]; unfold k0_part10_skel
  simp only [Prog.lift, Prog.bind_op, Prog.bind_ret, Prog.pure_eq_ret]
  iintro Hi H
  iapply (wp_ld_x m c (wF c + 3) (off6_at c).1) $$ Hi
  iintro Hi
  iapply (wp_ld_wq m c) $$ Hi
  iintro Hi
  iapply (wp_ld_k m c (wF c + 3) (off7_at c).1) $$ Hi
  iintro Hi
  iapply (wp_ld_v m c (wF c + 3) (off7_at c).1) $$ Hi
  iintro Hi
  iapply wp_rt
  iapply H $$ Hi

theorem part11 (c : Dev nD) (v350 : FVec F S256x1024 .f32) (v354 v358 : FVec F S1024x256 .bf16) (v386 : FVec F S256x1024 .f32)
    {Q : (Σ' (_ : FVec F S256x128 .f32) (_ : FVec F S256x128 .f32) (_ : FVec F S256x128 .f32) (_ : FVec F S256x128 .bf16) (_ : FVec F S1024x128 .bf16), FVec F S256x1024 .f32) → sProp 𝕄} :
    Q ⟨k0_pay26 v358 v386, k0_pay27 v350 v354 v358, k0_pay28 v350 v354 v358, k0_pay29 v350, k0_pay30 v354, constant S256x1024 .f32 0x00000000#32⟩
      ⊢ wpc c (ap (k0_part11 (F := F)) v350 v354 v358 v386) Q := by
  unfold ap
  rw [k0_part11_eq_skeleton]
  exact wp_rt

theorem part12 (c : Dev nD) (v350 : FVec F S256x1024 .f32) (v354 v358 : FVec F S1024x256 .bf16) (v432 : FVec F S256x128 .bf16) (v433 : FVec F S1024x128 .bf16)
    (z : FVec F S256x1024 .f32) {Q : (Σ' (_ : FVec F S256x128 .f32) (_ : FVec F S256x128 .f32) (_ : FVec F S256x1 .f32), FVec F S256x1024 .bf16) → sProp 𝕄} :
    Q ⟨k0_pay31 v358 v432 v433 z, k0_pay32 v350 v354 v358, k0_pay34 v350 v354, k0_pay35 v350 v354⟩
      ⊢ wpc c (ap (k0_part12 (F := F)) v350 v354 v358 v432 v433 z) Q := by
  unfold ap
  rw [k0_part12_eq_skeleton]
  exact wp_rt

/-- The second group's product is stored. -/
theorem part13 (c : Dev nD) (v79 v343 : BitVec 32) (v350 : FVec F S256x1024 .f32) (v354 v358 : FVec F S1024x256 .bf16)
    (v376 v394 v412 v430 v448 v466 : FVec F S256x128 .f32) (v479 : FVec F S256x1 .f32) (v480 : FVec F S256x1024 .bf16) (G : Vec F S4x64x1024 .f32)
    (hG : k0_pay36 v350 v354 v358 v376 v394 v412 v430 v448 v466 v479 v480 (wov m c) = G) {a₀ a₁ a₂ a₃ : Vec F S4x64x1024 .f32}
    {Q : PUnit → sProp 𝕄} :
    sl c woM fullShare (wov m c) ⊢ iprop(outR c ![a₀, a₁, a₂, a₃]
      -∗ (sl c woM fullShare (wov m c) -∗ outR c ![a₀, a₁, a₂, G] -∗ Q ⟨⟩)
      -∗ wpc c (ap (k0_part13 (F := F)) c v79 v343 v350 v354 v358 v376 v394 v412 v430 v448 v466 v479 v480) Q) := by
  unfold ap
  rw [k0_part13_eq_skeleton]; unfold k0_part13_skel
  simp only [Prog.lift, Prog.bind_op, Prog.bind_ret, Prog.pure_eq_ret]
  iintro Hw Ho H
  iapply (wp_ld_all (c := c) (M := woM)) $$ Hw
  iintro Hw
  iapply (wp_ld_g (c := c) 3 (off8_at c).1) $$ Ho
  iintro Ho
  iapply (wp_st_g (c := c) 3 ![a₀, a₁, a₂, G] hG.symm (vec_ne3 _ _ _ _ _) (off8_at c).1) $$ Ho
  iintro Ho
  iapply wp_rt
  iapply H $$ Hw Ho

/-- The first landing is added to it, and the sum is what the device sends next. -/
theorem part14 (c : Dev nD) (v29 v343 : BitVec 32) {a₀ a₁ a₂ : Vec F S4x64x1024 .f32} {Q : FVec F S4x64x1024 .bf16 → sProp 𝕄} :
    env m K ⊢ iprop(outR c ![a₀, a₁, a₂, P m c (wF c + 3)] -∗ slE c (slot4 stM 1) -∗ crd c 6 -∗ owesE c 5 -∗ pos c 6 0
      -∗ (outR c ![a₀, a₁, a₂, A1 m c] -∗ slE c (slot4 stM 1) -∗ sl c (slot4 rsM 0) fullShare (S0 m (wl c)) -∗ owesE c 5 -∗ pos c 6 1 -∗ Q (k0_pay38 (A1 m c)))
      -∗ wpc c (ap (k0_part14 (F := F)) c v29 v343) Q) := by
  unfold ap
  rw [k0_part14_eq_skeleton]; unfold k0_part14_skel
  simp only [Prog.lift, Prog.bind_op, Prog.bind_ret, Prog.pure_eq_ret]
  iintro #HE Ho Hs Hc HO Ha H
  iapply (wp_wt m K c 6 0 5 (dst := slot4 rsM 0) rfl (by decide) (by decide) rfl (by decide) 1 rfl (sl c (slot4 rsM 0) fullShare (S0 m (wl c))) (Entails.of_eq rfl)) $$ HE Hc HO Ha
  iintro HO Ha - Hr
  iapply (wp_ld_g (c := c) 3 (off8_at c).1) $$ Ho
  iintro Ho
  iapply (wp_ld_slot4 (c := c) rsM 0) $$ Hr
  iintro Hr
  iapply (wp_ld_g (c := c) 3 (off8_at c).1) $$ Ho
  iintro Ho
  iapply (wp_st_g (c := c) 3 ![a₀, a₁, a₂, A1 m c] rfl (vec_ne3 _ _ _ _ _) (off8_at c).1) $$ Ho
  iintro Ho
  iapply (wp_ld_gv (c := c) 3 (A1 m c) rfl (off5_at c).2.1) $$ Ho
  iintro Ho
  iapply (wp_ld_slot4_any (c := c) stM 1) $$ Hs
  iintro %v Hs
  iapply wp_rt
  iapply H $$ Ho Hs Hr HO Ha

/-! ## The third batch group -/

/-- The second send; and the loads for the third group. -/
theorem part15 (c : Dev nD) (v29 v79 : BitVec 32) {Q : (Σ' (_ : BitVec 32), FVec F S256x1024 .f32) → sProp 𝕄} :
    env m K ⊢ iprop(slE c (slot4 stM 1) -∗ slE (wr c) (slot4 rsM 1) -∗ owesE c 5 -∗ tok c 7 -∗ tok c 10 -∗ inp m c
      -∗ (∀ w, crd c 4 -∗ owesE c 6 -∗ inp m c -∗ Q ⟨w, k0_pay40 (xg m c (wF c + 2)) (wqv m c)⟩)
      -∗ wpc c (ap (k0_part15 (F := F)) c v29 v79 (k0_pay38 (A1 m c))) Q) := by
  unfold ap
  rw [k0_part15_eq_skeleton]; unfold k0_part15_skel
  simp only [Prog.lift, Prog.bind_op, Prog.bind_ret, Prog.pure_eq_ret]
  iintro #HE Hs Hd HO Ht Ht' Hi H
  iapply (wp_st_slot4 (c := c) stM 1 (X := S1 m c) rfl) $$ Hs
  iintro Hs
  ihave #Hr := (reach0 m K c 4) $$ HE
  iapply (wp_snd m K c _ 5 7 10 4 0 5 6 (X := S1 m c) (src := slot4 stM 1) (dst := slot4 rsM 1) (dev6_eq c) (by decide) rfl (by decide) rfl rfl rfl rfl
    sl_any (by rw [dev6_eq]; exact Entails.of_eq (by show _ = sl (wr c) (slot4 rsM 1) fullShare (S1 m (wl (wr c))); rw [wl_wr])) rfl rfl rfl rfl rfl) $$ HE Hs [Hd] HO Ht Hr Ht'
  · rw [dev6_eq]; iexact Hd
  iintro Hc HO
  iapply (wp_ld_x m c (wF c + 2) (off6_at c).2.1) $$ Hi
  iintro Hi
  iapply (wp_ld_wq m c) $$ Hi
  iintro Hi
  iapply wp_rt
  iapply H $$ Hc HO Hi

theorem part16 (c : Dev nD) (v572 : BitVec 32) (v579 : FVec F S256x1024 .f32)
    {Q : (Σ' (_ : FVec F S1024x256 .bf16) (_ : FVec F S1024x256 .bf16) (_ : FVec F S256x128 .f32) (_ : FVec F S256x128 .f32) (_ : FVec F S256x128 .bf16), FVec F S1024x128 .bf16) → sProp 𝕄} :
    inp m c ⊢ iprop((inp m c -∗ Q ⟨k0_pay41 (kg m c (wF c + 2)), k0_pay42 (vg m c (wF c + 2)), k0_pay43 v579 (kg m c (wF c + 2)) (vg m c (wF c + 2)),
        k0_pay44 v579 (kg m c (wF c + 2)) (vg m c (wF c + 2)), k0_pay45 v579, k0_pay46 (kg m c (wF c + 2))⟩)
      -∗ wpc c (ap (k0_part16 (F := F)) c v572 v579) Q) := by
  unfold ap
  rw [k0_part16_eq_skeleton]; unfold k0_part16_skel
  simp only [Prog.lift, Prog.bind_op, Prog.bind_ret, Prog.pure_eq_ret]
  iintro Hi H
  iapply (wp_ld_k m c (wF c + 2) (off7_at c).2.1) $$ Hi
  iintro Hi
  iapply (wp_ld_v m c (wF c + 2) (off7_at c).2.1) $$ Hi
  iintro Hi
  iapply wp_rt
  iapply H $$ Hi

theorem part17 (c : Dev nD) (v579 : FVec F S256x1024 .f32) (v583 v587 : FVec F S1024x256 .bf16) (v625 : FVec F S256x128 .bf16) (v626 : FVec F S1024x128 .bf16)
    {Q : (Σ' (_ : FVec F S256x128 .f32) (_ : FVec F S256x128 .f32) (_ : FVec F S256x1024 .f32), FVec F S256x1 .f32) → sProp 𝕄} :
    Q ⟨k0_pay47 v587 v625 v626, k0_pay48 v579 v583 v587, k0_pay49 v579 v583, k0_pay50 v579 v583⟩
      ⊢ wpc c (ap (k0_part17 (F := F)) v579 v583 v587 v625 v626) Q := by
  unfold ap
  rw [k0_part17_eq_skeleton]
  exact wp_rt

theorem part18 (c : Dev nD) (v579 : FVec F S256x1024 .f32) (v583 v587 : FVec F S1024x256 .bf16) (v670 : FVec F S256x1024 .f32) (v672 : FVec F S256x1 .f32)
    {Q : (Σ' (_ : FVec F S256x128 .f32) (_ : FVec F S256x128 .f32) (_ : FVec F S256x128 .f32), FVec F S256x1024 .f32) → sProp 𝕄} :
    Q ⟨k0_pay51 v587 v670 v672, k0_pay52 v579 v583 v587, k0_pay53 v579 v583 v587, k0_pay54 v579 v583⟩
      ⊢ wpc c (ap (k0_part18 (F := F)) v579 v583 v587 v670 v672) Q := by
  unfold ap
  rw [k0_part18_eq_skeleton]
  exact wp_rt

/-- The third group's product is stored, and the second landing awaited. -/
theorem part19 (c : Dev nD) (v79 v572 : BitVec 32) (v587 : FVec F S1024x256 .bf16) (v605 v623 v641 v659 v677 v695 v713 : FVec F S256x128 .f32)
    (v719 : FVec F S256x1024 .f32) (G : Vec F S4x64x1024 .f32) (hG : k0_pay55 v587 v605 v623 v641 v659 v677 v695 v713 v719 (wov m c) = G)
    {a₀ a₁ a₂ a₃ : Vec F S4x64x1024 .f32} {Q : FVec F S4x64x1024 .f32 → sProp 𝕄} :
    env m K ⊢ iprop(sl c woM fullShare (wov m c) -∗ outR c ![a₀, a₁, a₂, a₃] -∗ crd c 7 -∗ owesE c 6 -∗ pos c 7 0
      -∗ (sl c woM fullShare (wov m c) -∗ outR c ![a₀, a₁, G, a₃] -∗ sl c (slot4 rsM 1) fullShare (S1 m (wl c)) -∗ owesE c 6 -∗ pos c 7 1 -∗ Q (k0_pay56 G))
      -∗ wpc c (ap (k0_part19 (F := F)) c v79 v572 v587 v605 v623 v641 v659 v677 v695 v713 v719) Q) := by
  unfold ap
  rw [k0_part19_eq_skeleton]; unfold k0_part19_skel
  simp only [Prog.lift, Prog.bind_op, Prog.bind_ret, Prog.pure_eq_ret]
  iintro #HE Hw Ho Hc HO Ha H
  iapply (wp_ld_all (c := c) (M := woM)) $$ Hw
  iintro Hw
  iapply (wp_ld_g (c := c) 2 (off8_at c).2.1) $$ Ho
  iintro Ho
  iapply (wp_st_g (c := c) 2 ![a₀, a₁, G, a₃] hG.symm (vec_ne2 _ _ _ _ _) (off8_at c).2.1) $$ Ho
  iintro Ho
  iapply (wp_wt m K c 7 0 6 (dst := slot4 rsM 1) rfl (by decide) (by decide) rfl (by decide) 1 rfl (sl c (slot4 rsM 1) fullShare (S1 m (wl c))) (Entails.of_eq rfl)) $$ HE Hc HO Ha
  iintro HO Ha - Hr
  iapply (wp_ld_gv (c := c) 2 G rfl (off8_at c).2.1) $$ Ho
  iintro Ho
  iapply wp_rt
  iapply H $$ Hw Ho Hr HO Ha

/-- It is added; the sum is laid out to be sent. -/
theorem part20 (c : Dev nD) (v29 v79 v572 : BitVec 32) {a₀ a₁ a₂ a₃ : Vec F S4x64x1024 .f32} {Q : PUnit → sProp 𝕄} :
    sl c (slot4 rsM 1) fullShare (S1 m (wl c)) ⊢ iprop(outR c ![a₀, a₁, a₂, a₃] -∗ slE c (slot4 stM 2)
      -∗ (sl c (slot4 rsM 1) fullShare (S1 m (wl c)) -∗ outR c ![a₀, a₁, A2 m c, a₃] -∗ sl c (slot4 stM 2) fullShare (S2 m c) -∗ Q ⟨⟩)
      -∗ wpc c (ap (k0_part20 (F := F)) c v29 v79 v572 (k0_pay56 (P m c (wF c + 2)))) Q) := by
  unfold ap
  rw [k0_part20_eq_skeleton]; unfold k0_part20_skel
  simp only [Prog.lift, Prog.bind_op, Prog.bind_ret, Prog.pure_eq_ret]
  iintro Hr Ho Hs H
  iapply (wp_ld_slot4 (c := c) rsM 1) $$ Hr
  iintro Hr
  iapply (wp_ld_g (c := c) 2 (off8_at c).2.1) $$ Ho
  iintro Ho
  iapply (wp_st_g (c := c) 2 ![a₀, a₁, A2 m c, a₃] rfl (vec_ne2 _ _ _ _ _) (off8_at c).2.1) $$ Ho
  iintro Ho
  iapply (wp_ld_g (c := c) 2 (off5_at c).2.2) $$ Ho
  iintro Ho
  iapply (wp_ld_slot4_any (c := c) stM 2) $$ Hs
  iintro %v Hs
  iapply (wp_st_slot4 (c := c) stM 2 (X := S2 m c) rfl) $$ Hs
  iintro Hs
  iapply wp_rt
  iapply H $$ Hr Ho Hs

/-! ## The fourth batch group -/

/-- The third send; and the loads for the fourth group. -/
theorem part21 (c : Dev nD) (v29 : BitVec 32)
    {Q : (Σ' (_ : BitVec 32) (_ : FVec F S256x1024 .f32) (_ : FVec F S1024x256 .bf16) (_ : FVec F S1024x256 .bf16), FVec F S256x128 .bf16) → sProp 𝕄} :
    env m K ⊢ iprop(sl c (slot4 stM 2) fullShare (S2 m c) -∗ slE (wr c) (slot4 rsM 2) -∗ owesE c 6 -∗ tok c 8 -∗ tok c 11 -∗ inp m c
      -∗ (∀ w, crd c 5 -∗ owesE c 7 -∗ inp m c -∗ Q ⟨w, k0_pay59 (xg m c (wF c + 1)) (wqv m c), k0_pay60 (kg m c (wF c + 1)), k0_pay61 (vg m c (wF c + 1)),
        k0_pay62 (xg m c (wF c + 1)) (wqv m c)⟩)
      -∗ wpc c (ap (k0_part21 (F := F)) c v29) Q) := by
  unfold ap
  rw [k0_part21_eq_skeleton]; unfold k0_part21_skel
  simp only [Prog.lift, Prog.bind_op, Prog.bind_ret, Prog.pure_eq_ret]
  iintro #HE Hs Hd HO Ht Ht' Hi H
  ihave #Hr := (reach0 m K c 5) $$ HE
  iapply (wp_snd m K c _ 6 8 11 5 0 6 7 (X := S2 m c) (src := slot4 stM 2) (dst := slot4 rsM 2) (dev7_eq c) (by decide) rfl (by decide) rfl rfl rfl rfl
    sl_any (by rw [dev7_eq]; exact Entails.of_eq (by show _ = sl (wr c) (slot4 rsM 2) fullShare (S2 m (wl (wr c))); rw [wl_wr])) rfl rfl rfl rfl rfl) $$ HE Hs [Hd] HO Ht Hr Ht'
  · rw [dev7_eq]; iexact Hd
  iintro Hc HO
  iapply (wp_ld_x m c (wF c + 1) (off6_at c).2.2) $$ Hi
  iintro Hi
  iapply (wp_ld_wq m c) $$ Hi
  iintro Hi
  iapply (wp_ld_k m c (wF c + 1) (off7_at c).2.2) $$ Hi
  iintro Hi
  iapply (wp_ld_v m c (wF c + 1) (off7_at c).2.2) $$ Hi
  iintro Hi
  iapply wp_rt
  iapply H $$ Hc HO Hi

theorem part22 (c : Dev nD) (v808 : FVec F S256x1024 .f32) (v812 v816 : FVec F S1024x256 .bf16) (v818 : FVec F S256x128 .bf16)
    {Q : (Σ' (_ : FVec F S256x128 .f32) (_ : FVec F S256x128 .f32) (_ : FVec F S256x1024 .f32), FVec F S256 .f32) → sProp 𝕄} :
    Q ⟨k0_pay63 v812 v816 v818, k0_pay64 v808 v812 v816, k0_pay65 v808 v812, k0_pay66 v808 v812⟩
      ⊢ wpc c (ap (k0_part22 (F := F)) v808 v812 v816 v818) Q := by
  unfold ap
  rw [k0_part22_eq_skeleton]
  exact wp_rt

theorem part23 (c : Dev nD) (v808 : FVec F S256x1024 .f32) (v812 v816 : FVec F S1024x256 .bf16) (v863 : FVec F S256x1024 .f32) (v864 : FVec F S256 .f32)
    {Q : (Σ' (_ : FVec F S256x128 .f32) (_ : FVec F S256x128 .f32) (_ : FVec F S256x128 .f32) (_ : FVec F S256x1024 .f32), FVec F S256x1024 .f32) → sProp 𝕄} :
    Q ⟨k0_pay67 v816 v863 v864, k0_pay68 v808 v812 v816, k0_pay69 v808 v812 v816, k0_pay70 v808 v812, k0_pay71 (F := F)⟩
      ⊢ wpc c (ap (k0_part23 (F := F)) v808 v812 v816 v863 v864) Q := by
  unfold ap
  rw [k0_part23_eq_skeleton]
  exact wp_rt

theorem part24 (c : Dev nD) (v808 : FVec F S256x1024 .f32) (v812 v816 : FVec F S1024x256 .bf16) (v910 v911 : FVec F S256x1024 .f32)
    {Q : (Σ' (_ : FVec F S256x128 .f32) (_ : FVec F S256x128 .f32) (_ : FVec F S256x1 .f32), FVec F S256x128 .f32) → sProp 𝕄} :
    Q ⟨k0_pay72 v816 v910 v911, k0_pay73 v808 v812 v816, k0_pay75 v808 v812, k0_pay76 v808 v812 v816⟩
      ⊢ wpc c (ap (k0_part24 (F := F)) v808 v812 v816 v910 v911) Q := by
  unfold ap
  rw [k0_part24_eq_skeleton]
  exact wp_rt

/-- The fourth group's product is stored, and the third landing added. -/
theorem part25 (c : Dev nD) (v79 v801 : BitVec 32) (v834 v852 v870 v888 v906 v924 v942 : FVec F S256x128 .f32) (v955 : FVec F S256x1 .f32) (v958 : FVec F S256x128 .f32)
    (hG : k0_pay77 v834 v852 v870 v888 v906 v924 v942 v955 v958 (wov m c) = P m c (wF c + 1))
    {a₀ a₁ a₂ a₃ : Vec F S4x64x1024 .f32} {Q : PUnit → sProp 𝕄} :
    env m K ⊢ iprop(sl c woM fullShare (wov m c) -∗ outR c ![a₀, a₁, a₂, a₃] -∗ crd c 8 -∗ owesE c 7 -∗ pos c 8 0
      -∗ (sl c woM fullShare (wov m c) -∗ outR c ![a₀, A3 m c, a₂, a₃] -∗ sl c (slot4 rsM 2) fullShare (S2 m (wl c)) -∗ owesE c 7 -∗ pos c 8 1 -∗ Q ⟨⟩)
      -∗ wpc c (ap (k0_part25 (F := F)) c v79 v801 v834 v852 v870 v888 v906 v924 v942 v955 v958) Q) := by
  unfold ap
  rw [k0_part25_eq_skeleton]; unfold k0_part25_skel
  simp only [Prog.lift, Prog.bind_op, Prog.bind_ret, Prog.pure_eq_ret]
  iintro #HE Hw Ho Hc HO Ha H
  iapply (wp_ld_all (c := c) (M := woM)) $$ Hw
  iintro Hw
  iapply (wp_ld_g (c := c) 1 (off8_at c).2.2) $$ Ho
  iintro Ho
  iapply (wp_st_g (c := c) 1 ![a₀, P m c (wF c + 1), a₂, a₃] hG.symm (vec_ne1 _ _ _ _ _) (off8_at c).2.2) $$ Ho
  iintro Ho
  iapply (wp_wt m K c 8 0 7 (dst := slot4 rsM 2) rfl (by decide) (by decide) rfl (by decide) 1 rfl (sl c (slot4 rsM 2) fullShare (S2 m (wl c))) (Entails.of_eq rfl)) $$ HE Hc HO Ha
  iintro HO Ha - Hr
  iapply (wp_ld_g (c := c) 1 (off8_at c).2.2) $$ Ho
  iintro Ho
  iapply (wp_ld_slot4 (c := c) rsM 2) $$ Hr
  iintro Hr
  iapply (wp_ld_g (c := c) 1 (off8_at c).2.2) $$ Ho
  iintro Ho
  iapply (wp_st_g (c := c) 1 ![a₀, A3 m c, a₂, a₃] rfl (vec_ne1 _ _ _ _ _) (off8_at c).2.2) $$ Ho
  iintro Ho
  iapply wp_rt
  iapply H $$ Hw Ho Hr HO Ha

end Cert.Mesh

end
-- ==== Proof.BodyC.lean ====
/- The kernel's body on one device, part by part: the exchange across the rows, and the passing on of the finished
   batch groups both ways round the row. -/
module

public import proofs.«01_k».proof.Proof.BodyB

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 24 → ℕ)

/-! ## Where the parts load and store -/

theorem off12_at (c : Dev nD) : k0_off12 c 0#32 = ho (wF c + 0) 0 ∧ k0_off12 c 1#32 = ho (wF c + 3) 0 ∧ k0_off12 c 2#32 = ho (wF c + 2) 0 := by
  revert c; decide +kernel
theorem off13_at (c : Dev nD) : k0_off13 c 0#32 = ho (wF c + 2) 1 ∧ k0_off13 c 1#32 = ho (wF c + 3) 1 := by
  revert c; decide +kernel
theorem off14_at (c : Dev nD) : k0_off14 c = ho (wF c + 0) 1 := by
  revert c; decide +kernel

/-- What has landed from the left, and from the right, as it is stored in the result. -/
abbrev rB (r : Vec F S2x64x1024 .bf16) : Vec F S2x64x1024 .f32 := k0_pay86 (uns2 r)
abbrev lB (l : Vec F S2x64x1024 .bf16) : Vec F S2x64x1024 .f32 := k0_pay87 (uns2 l)

/-! ## Across the rows -/

/-- The three sends of the first exchange have left. -/
theorem part26 (c : Dev nD) (v29 : BitVec 32) {Q : (Σ' (_ : BitVec 32) (_ : BitVec 32) (_ : BitVec 1), BitVec 32) → sProp 𝕄} :
    env m K ⊢ iprop(owesE c 7 -∗ crd c 3 -∗ crd c 4 -∗ crd c 5 -∗ pos c 3 0 -∗ pos c 4 0 -∗ pos c 5 0
      -∗ (∀ a b d e, owesE c 7 -∗ slE c (slot4 stM 0) -∗ slE c (slot4 stM 1) -∗ slE c (slot4 stM 2) -∗ pos c 3 1 -∗ pos c 4 1 -∗ pos c 5 1 -∗ Q ⟨a, b, d, e⟩)
      -∗ wpc c (ap (k0_part26 (F := F)) v29) Q) := by
  unfold ap
  rw [k0_part26_eq_skeleton]; unfold k0_part26_skel
  simp only [Prog.lift, Prog.bind_op, Prog.bind_ret, Prog.pure_eq_ret]
  iintro #HE HO Hc3 Hc4 Hc5 Ha3 Ha4 Ha5 H
  iapply (wp_wt m K c 3 0 7 (dst := slot4 stM 0) rfl (by decide) (by decide) rfl (by decide) 1 rfl (slE c (slot4 stM 0)) (Entails.of_eq rfl)) $$ HE Hc3 HO Ha3
  iintro HO Ha3 - Hs0
  iapply (wp_wt m K c 4 0 7 (dst := slot4 stM 1) rfl (by decide) (by decide) rfl (by decide) 1 rfl (slE c (slot4 stM 1)) (Entails.of_eq rfl)) $$ HE Hc4 HO Ha4
  iintro HO Ha4 - Hs1
  iapply (wp_wt m K c 5 0 7 (dst := slot4 stM 2) rfl (by decide) (by decide) rfl (by decide) 1 rfl (slE c (slot4 stM 2)) (Entails.of_eq rfl)) $$ HE Hc5 HO Ha5
  iintro HO Ha5 - Hs2
  iapply wp_rt
  iapply H $$ HO Hs0 Hs1 Hs2 Ha3 Ha4 Ha5

/-- The group's sum over the row goes to one neighbour row and is added to what comes from there. -/
theorem part27 (c : Dev nD) (v95 v1006 v1 : BitVec 32) (v1007 : BitVec 1) (v2 : BitVec 32) (G : Vec F S4x64x1024 .f32) (hG : k0_pay80 (A3 m c) (T0 m (pA c)) = G)
    {a₀ a₂ a₃ : Vec F S4x64x1024 .f32}
    {Q : (Σ' (_ : BitVec 32), FVec F S4x64x1024 .f32) → sProp 𝕄} :
    env m K ⊢ iprop(outR c ![a₀, A3 m c, a₂, a₃] -∗ slE c psM -∗ slE (pA c) zAM -∗ owesE c 7 -∗ tok c 12 -∗ tok c 13
      -∗ pos c 9 0 -∗ crd c 10 -∗ pos c 10 0
      -∗ (∀ w, outR c ![a₀, A3 m c, a₂, a₃] -∗ slE c psM -∗ sl c zAM fullShare (T0 m (pA c)) -∗ owesE c 8 -∗ pos c 9 1
        -∗ reached ER (kcell (c, 9)) 1 -∗ pos c 10 1 -∗ Q ⟨w, G⟩)
      -∗ wpc c (ap (k0_part27 (F := F)) c v95 v1006 v1 v1007 v2) Q) := by
  subst hG
  unfold ap
  rw [k0_part27_eq_skeleton]; unfold k0_part27_skel
  simp only [Prog.lift, Prog.bind_op, Prog.bind_ret, Prog.pure_eq_ret]
  iintro #HE Ho Hp Hz HO Ht Ht' Ha9 Hc10 Ha10 H
  iapply (wp_ld_gv (c := c) 1 (A3 m c) rfl (off9_eq c)) $$ Ho
  iintro Ho
  iapply (wp_ld_anyall (c := c) (M := psM)) $$ Hp
  iintro %v Hp
  iapply (wp_st_all (c := c) (M := psM) (w := T0 m c)) $$ Hp
  iintro Hp
  ihave #Hr := (reach0 m K c 9) $$ HE
  iapply (wp_snd m K c _ 7 12 13 9 0 7 8 (X := T0 m c) (src := psM) (dst := zAM) (dev8_eq c) (by decide) rfl (by decide) rfl rfl rfl rfl
    sl_any (by rw [dev8_eq]; exact Entails.of_eq (by show _ = sl (pA c) zAM fullShare (T0 m (pA (pA c))); rw [pA_pA])) rfl rfl rfl rfl rfl) $$ HE Hp [Hz] HO Ht Hr Ht'
  · rw [dev8_eq]; iexact Hz
  iintro Hc9 HO
  iapply (wp_wt m K c 9 0 8 (dst := psM) rfl (by decide) (by decide) rfl (by decide) 1 rfl (slE c psM) (Entails.of_eq rfl)) $$ HE Hc9 HO Ha9
  iintro HO Ha9 Hr1 Hp
  iapply (wp_wt m K c 10 0 8 (dst := zAM) rfl (by decide) (by decide) rfl (by decide) 1 rfl (sl c zAM fullShare (T0 m (pA c))) (Entails.of_eq rfl)) $$ HE Hc10 HO Ha10
  iintro HO Ha10 - Hz
  iapply (wp_ld_gv (c := c) 1 (A3 m c) rfl (off9_eq c)) $$ Ho
  iintro Ho
  iapply (wp_ld_all (c := c) (M := zAM)) $$ Hz
  iintro Hz
  iapply wp_rt
  iapply H $$ Ho Hp Hz HO Ha9 Hr1 Ha10

/-- The same with the other neighbour row; the group's sum over all devices is complete. -/
theorem part28 (c : Dev nD) (v98 v1017 : BitVec 32) {a₀ a₁ a₂ a₃ : Vec F S4x64x1024 .f32}
    {Q : (Σ' (_ : FVec F S2x64x1024 .bf16), Vec F S2x64x1024 .bf16) → sProp 𝕄} :
    env m K ⊢ iprop(outR c ![a₀, a₁, a₂, a₃] -∗ slE c psM -∗ slE (pB c) zBM -∗ owesE c 8 -∗ tok c 27 -∗ tok c 14
      -∗ reached ER (kcell (c, 9)) 1 -∗ pos c 9 1 -∗ crd c 11 -∗ pos c 11 0 -∗ slE c gRM
      -∗ (∀ v, outR c ![a₀, B2 m c, a₂, a₃] -∗ slE c psM -∗ sl c zBM fullShare (T1 m (pB c)) -∗ owesE c 9 -∗ pos c 9 2 -∗ pos c 11 1
        -∗ slE c gRM -∗ Q ⟨k0_pay83 (half 0 (B2 m c)), v⟩)
      -∗ wpc c (ap (k0_part28 (F := F)) c v98 v1017 (B1 m c)) Q) := by
  unfold ap
  rw [k0_part28_eq_skeleton]; unfold k0_part28_skel
  simp only [Prog.lift, Prog.bind_op, Prog.bind_ret, Prog.pure_eq_ret]
  iintro #HE Ho Hp Hz HO Ht Ht' #Hr Ha9 Hc11 Ha11 Hg H
  iapply (wp_ld_g (c := c) 1 (off9_eq c)) $$ Ho
  iintro Ho
  iapply (wp_st_g (c := c) 1 ![a₀, B1 m c, a₂, a₃] rfl (vec_ne1 _ _ _ _ _) (off9_eq c)) $$ Ho
  iintro Ho
  iapply (wp_ld_gv (c := c) 1 (B1 m c) rfl (off9_eq c)) $$ Ho
  iintro Ho
  iapply (wp_ld_anyall (c := c) (M := psM)) $$ Hp
  iintro %v Hp
  iapply (wp_st_all (c := c) (M := psM) (w := T1 m c)) $$ Hp
  iintro Hp
  iapply (wp_snd m K c _ 8 27 14 9 1 8 9 (X := T1 m c) (src := psM) (dst := zBM) (dev9_eq c) (by decide) rfl (by decide) rfl rfl rfl rfl
    sl_any (by rw [dev9_eq]; exact Entails.of_eq (by show _ = sl (pB c) zBM fullShare (T1 m (pB (pB c))); rw [pB_pB])) rfl rfl rfl rfl rfl) $$ HE Hp [Hz] HO Ht Hr Ht'
  · rw [dev9_eq]; iexact Hz
  iintro Hc9 HO
  iapply (wp_wt m K c 9 1 9 (dst := psM) rfl (by decide) (by decide) rfl (by decide) 2 rfl (slE c psM) (Entails.of_eq rfl)) $$ HE Hc9 HO Ha9
  iintro HO Ha9 - Hp
  iapply (wp_wt m K c 11 0 9 (dst := zBM) rfl (by decide) (by decide) rfl (by decide) 1 rfl (sl c zBM fullShare (T1 m (pB c))) (Entails.of_eq rfl)) $$ HE Hc11 HO Ha11
  iintro HO Ha11 - Hz
  iapply (wp_ld_gv (c := c) 1 (B1 m c) rfl (off9_eq c)) $$ Ho
  iintro Ho
  iapply (wp_ld_all (c := c) (M := zBM)) $$ Hz
  iintro Hz
  iapply (wp_ld_gv (c := c) 1 (B1 m c) rfl (off9_eq c)) $$ Ho
  iintro Ho
  iapply (wp_st_g (c := c) 1 ![a₀, B2 m c, a₂, a₃] rfl (vec_ne1 _ _ _ _ _) (off9_eq c)) $$ Ho
  iintro Ho
  iapply (wp_ld_hv (c := c) 1 0 (half 0 (B2 m c)) rfl (off10_eq c)) $$ Ho
  iintro Ho
  iapply (wp_ld_anyall (c := c) (M := gRM)) $$ Hg
  iintro %v' Hg
  iapply wp_rt
  iapply H $$ Ho Hp Hz HO Ha9 Ha11 Hg

/-! ## Round the row -/

/-- One half of the finished group goes right, the other left. -/
theorem part29 (c : Dev nD) (v79 v92 v1017 : BitVec 32) (v : Vec F S2x64x1024 .bf16) {a₀ a₂ a₃ : Vec F S4x64x1024 .f32} {Q : PUnit → sProp 𝕄} :
    env m K ⊢ iprop(outR c ![a₀, B2 m c, a₂, a₃] -∗ slE c gRM -∗ slE c gLM -∗ slE (wr c) (slot2 aRM 0) -∗ slE (wl c) (slot2 aLM 0)
      -∗ owesE c 9 -∗ tok c 15 -∗ tok c 18 -∗ tok c 21 -∗ tok c 24
      -∗ (outR c ![a₀, B2 m c, a₂, a₃] -∗ crd c 12 -∗ crd c 18 -∗ owesE c 11 -∗ Q ⟨⟩)
      -∗ wpc c (ap (k0_part29 (F := F)) c v79 v92 v1017 (k0_pay83 (half 0 (B2 m c))) v) Q) := by
  unfold ap
  rw [k0_part29_eq_skeleton]; unfold k0_part29_skel
  simp only [Prog.lift, Prog.bind_op, Prog.bind_ret, Prog.pure_eq_ret]
  iintro #HE Ho Hg Hg' Hd Hd' HO Ht Ht' Ht2 Ht2' H
  iapply (wp_st_all (c := c) (M := gRM) (w := R0 m c)) $$ Hg
  iintro Hg
  iapply (wp_ld_hv (c := c) 1 1 (half 1 (B2 m c)) rfl (off11_eq c)) $$ Ho
  iintro Ho
  iapply (wp_ld_anyall (c := c) (M := gLM)) $$ Hg'
  iintro %v' Hg'
  iapply (wp_st_all (c := c) (M := gLM) (w := L0 m c)) $$ Hg'
  iintro Hg'
  ihave #Hr := (reach0 m K c 12) $$ HE
  iapply (wp_snd m K c _ 9 15 18 12 0 9 10 (X := R0 m c) (src := gRM) (dst := slot2 aRM 0) (dev10_eq c) (by decide) rfl (by decide) rfl rfl rfl rfl
    sl_any (by rw [dev10_eq]; exact Entails.of_eq (by show _ = sl (wr c) (slot2 aRM 0) fullShare (R0 m (wl (wr c))); rw [wl_wr])) rfl rfl rfl rfl rfl) $$ HE Hg [Hd] HO Ht Hr Ht'
  · rw [dev10_eq]; iexact Hd
  iintro Hc HO
  ihave #Hr2 := (reach0 m K c 18) $$ HE
  iapply (wp_snd m K c _ 10 21 24 18 0 10 11 (X := L0 m c) (src := gLM) (dst := slot2 aLM 0) (dev11_eq c) (by decide) rfl (by decide) rfl rfl rfl rfl
    sl_any (by rw [dev11_eq]; exact Entails.of_eq (by show _ = sl (wl c) (slot2 aLM 0) fullShare (L0 m (wr (wl c))); rw [wr_wl])) rfl rfl rfl rfl rfl) $$ HE Hg' [Hd'] HO Ht2 Hr2 Ht2'
  · rw [dev11_eq]; iexact Hd'
  iintro Hc' HO
  iapply wp_rt
  iapply H $$ Ho Hc Hc' HO

/-- Both halves of a neighbour's group have landed; the one from the left goes on right. -/
theorem part30 (c : Dev nD) (v79 v92 : BitVec 32) {Q : PUnit → sProp 𝕄} :
    env m K ⊢ iprop(slE (wr c) (slot2 aRM 1) -∗ owesE c 11 -∗ tok c 16 -∗ tok c 19 -∗ crd c 15 -∗ pos c 15 0 -∗ crd c 21 -∗ pos c 21 0
      -∗ (sl c (slot2 aRM 0) fullShare.left (RR m 0 c) -∗ sl c (slot2 aLM 0) fullShare (LL m 0 c) -∗ crd c 13 -∗ owesE c 12 -∗ pos c 15 1 -∗ pos c 21 1 -∗ Q ⟨⟩)
      -∗ wpc c (ap (k0_part30 (F := F)) c v79 v92) Q) := by
  unfold ap
  rw [k0_part30_eq_skeleton]; unfold k0_part30_skel
  simp only [Prog.lift, Prog.bind_op, Prog.bind_ret, Prog.pure_eq_ret]
  iintro #HE Hd HO Ht Ht' Hc Ha Hc' Ha' H
  iapply (wp_wt m K c 15 0 11 (dst := slot2 aRM 0) rfl (by decide) (by decide) rfl (by decide) 1 rfl (sl c (slot2 aRM 0) fullShare (RR m 0 c)) (Entails.of_eq rfl)) $$ HE Hc HO Ha
  iintro HO Ha - HR
  iapply (wp_wt m K c 21 0 11 (dst := slot2 aLM 0) rfl (by decide) (by decide) rfl (by decide) 1 rfl (sl c (slot2 aLM 0) fullShare (LL m 0 c)) (Entails.of_eq rfl)) $$ HE Hc' HO Ha'
  iintro HO Ha' - HL
  ihave HR := sl_halve $$ HR
  icases HR with ⟨HR, HR'⟩
  ihave #Hr := (reach0 m K c 13) $$ HE
  iapply (wp_snd m K c _ 11 16 19 13 0 11 12 (X := RR m 0 c) (src := slot2 aRM 0) (dst := slot2 aRM 1) (q := fullShare.right) (dev12_eq c) (by decide) rfl (by decide) rfl rfl rfl rfl
    (Entails.of_eq rfl) (by rw [dev12_eq]; exact Entails.of_eq (by show _ = sl (wr c) (slot2 aRM 1) fullShare (R0 m (wl (wl (wr c)))); rw [wl_wr]; rfl)) rfl rfl rfl rfl rfl) $$ HE HR' [Hd] HO Ht Hr Ht'
  · rw [dev12_eq]; iexact Hd
  iintro Hc HO
  iapply wp_rt
  iapply H $$ HR HL Hc HO Ha Ha'

/-- The one from the right goes on left; the one from the left is put into the result. -/
theorem part31 (c : Dev nD) (v29 : BitVec 32) {a₀ a₁ a₂ a₃ : Vec F S4x64x1024 .f32} {Q : (Σ' (_ : BitVec 32) (_ : BitVec 32), BitVec 1) → sProp 𝕄} :
    env m K ⊢ iprop(outR c ![a₀, a₁, a₂, a₃] -∗ sl c (slot2 aRM 0) fullShare.left (RR m 0 c) -∗ sl c (slot2 aLM 0) fullShare (LL m 0 c)
      -∗ slE (wl c) (slot2 aLM 1) -∗ owesE c 12 -∗ tok c 22 -∗ tok c 25
      -∗ (∀ a b d, outR c ![setHalf 0 a₀ (rB (RR m 0 c)), a₁, a₂, a₃] -∗ sl c (slot2 aRM 0) fullShare.left (RR m 0 c)
        -∗ sl c (slot2 aLM 0) fullShare.left (LL m 0 c) -∗ crd c 19 -∗ owesE c 13 -∗ Q ⟨a, b, d⟩)
      -∗ wpc c (ap (k0_part31 (F := F)) c v29) Q) := by
  unfold ap
  rw [k0_part31_eq_skeleton]; unfold k0_part31_skel
  simp only [Prog.lift, Prog.bind_op, Prog.bind_ret, Prog.pure_eq_ret]
  iintro #HE Ho HR HL Hd HO Ht Ht' H
  ihave HL := sl_halve $$ HL
  icases HL with ⟨HL, HL'⟩
  ihave #Hr := (reach0 m K c 19) $$ HE
  iapply (wp_snd m K c _ 12 22 25 19 0 12 13 (X := LL m 0 c) (src := slot2 aLM 0) (dst := slot2 aLM 1) (q := fullShare.right) (dev13_eq c) (by decide) rfl (by decide) rfl rfl rfl rfl
    (Entails.of_eq rfl) (by rw [dev13_eq]; exact Entails.of_eq (by show _ = sl (wl c) (slot2 aLM 1) fullShare (L0 m (wr (wr (wl c)))); rw [wr_wl]; rfl)) rfl rfl rfl rfl rfl) $$ HE HL' [Hd] HO Ht Hr Ht'
  · rw [dev13_eq]; iexact Hd
  iintro Hc HO
  iapply (wp_ld_slot2 (c := c) aRM 0) $$ HR
  iintro HR
  iapply (wp_ld_h (c := c) 0 0 (off12_at c).1) $$ Ho
  iintro Ho
  iapply (wp_st_h (c := c) 0 0 ![setHalf 0 a₀ (rB (RR m 0 c)), a₁, a₂, a₃] rfl (vec_ne0 _ _ _ _ _) (off12_at c).1) $$ Ho
  iintro Ho
  iapply wp_rt
  iapply H $$ Ho HR HL Hc HO

/-- The one from the right is put into the result; the second landings are awaited. -/
theorem part32 (c : Dev nD) (v79 v92 v1148 v1149 : BitVec 32) (v1154 : BitVec 1) {a₀ a₁ a₂ a₃ : Vec F S4x64x1024 .f32} {Q : PUnit → sProp 𝕄} :
    env m K ⊢ iprop(outR c ![a₀, a₁, a₂, a₃] -∗ sl c (slot2 aLM 0) fullShare.left (LL m 0 c) -∗ owesE c 13 -∗ crd c 16 -∗ pos c 16 0 -∗ crd c 22 -∗ pos c 22 0
      -∗ (outR c ![a₀, a₁, setHalf 1 a₂ (lB (LL m 0 c)), a₃] -∗ sl c (slot2 aLM 0) fullShare.left (LL m 0 c) -∗ sl c (slot2 aRM 1) fullShare (RR m 1 c)
        -∗ sl c (slot2 aLM 1) fullShare (LL m 1 c) -∗ owesE c 13 -∗ pos c 16 1 -∗ pos c 22 1 -∗ Q ⟨⟩)
      -∗ wpc c (ap (k0_part32 (F := F)) c v79 v92 v1148 v1149 v1154) Q) := by
  unfold ap
  rw [k0_part32_eq_skeleton]; unfold k0_part32_skel
  simp only [Prog.lift, Prog.bind_op, Prog.bind_ret, Prog.pure_eq_ret]
  iintro #HE Ho HL HO Hc Ha Hc' Ha' H
  iapply (wp_ld_slot2 (c := c) aLM 0) $$ HL
  iintro HL
  iapply (wp_ld_h (c := c) 2 1 (off13_at c).1) $$ Ho
  iintro Ho
  iapply (wp_st_h (c := c) 2 1 ![a₀, a₁, setHalf 1 a₂ (lB (LL m 0 c)), a₃] rfl (vec_ne2 _ _ _ _ _) (off13_at c).1) $$ Ho
  iintro Ho
  iapply (wp_wt m K c 16 0 13 (dst := slot2 aRM 1) rfl (by decide) (by decide) rfl (by decide) 1 rfl (sl c (slot2 aRM 1) fullShare (RR m 1 c)) (Entails.of_eq rfl)) $$ HE Hc HO Ha
  iintro HO Ha - HR1
  iapply (wp_wt m K c 22 0 13 (dst := slot2 aLM 1) rfl (by decide) (by decide) rfl (by decide) 1 rfl (sl c (slot2 aLM 1) fullShare (LL m 1 c)) (Entails.of_eq rfl)) $$ HE Hc' HO Ha'
  iintro HO Ha' - HL1
  iapply wp_rt
  iapply H $$ Ho HL HR1 HL1 HO Ha Ha'

/-- They go on, right and left. -/
theorem part33 (c : Dev nD) (v29 v79 v92 : BitVec 32) {Q : (Σ' (_ : BitVec 32) (_ : BitVec 32) (_ : BitVec 1), BitVec 1) → sProp 𝕄} :
    env m K ⊢ iprop(sl c (slot2 aRM 1) fullShare (RR m 1 c) -∗ sl c (slot2 aLM 1) fullShare (LL m 1 c) -∗ slE (wr c) (slot2 aRM 2) -∗ slE (wl c) (slot2 aLM 2)
      -∗ owesE c 13 -∗ tok c 17 -∗ tok c 20 -∗ tok c 23 -∗ tok c 26
      -∗ (∀ a b d e, sl c (slot2 aRM 1) fullShare.left (RR m 1 c) -∗ sl c (slot2 aLM 1) fullShare.left (LL m 1 c) -∗ crd c 14 -∗ crd c 20 -∗ owesE c 15 -∗ Q ⟨a, b, d, e⟩)
      -∗ wpc c (ap (k0_part33 (F := F)) c v29 v79 v92) Q) := by
  unfold ap
  rw [k0_part33_eq_skeleton]; unfold k0_part33_skel
  simp only [Prog.lift, Prog.bind_op, Prog.bind_ret, Prog.pure_eq_ret]
  iintro #HE HR HL Hd Hd' HO Ht Ht' Ht2 Ht2' H
  ihave HR := sl_halve $$ HR
  icases HR with ⟨HR, HR'⟩
  ihave HL := sl_halve $$ HL
  icases HL with ⟨HL, HL'⟩
  ihave #Hr := (reach0 m K c 14) $$ HE
  iapply (wp_snd m K c _ 13 17 20 14 0 13 14 (X := RR m 1 c) (src := slot2 aRM 1) (dst := slot2 aRM 2) (q := fullShare.right) (dev14_eq c) (by decide) rfl (by decide) rfl rfl rfl rfl
    (Entails.of_eq rfl) (by rw [dev14_eq]; exact Entails.of_eq (by show _ = sl (wr c) (slot2 aRM 2) fullShare (R0 m (wl (wl (wl (wr c))))); rw [wl_wr]; rfl)) rfl rfl rfl rfl rfl) $$ HE HR' [Hd] HO Ht Hr Ht'
  · rw [dev14_eq]; iexact Hd
  iintro Hc HO
  ihave #Hr2 := (reach0 m K c 20) $$ HE
  iapply (wp_snd m K c _ 14 23 26 20 0 14 15 (X := LL m 1 c) (src := slot2 aLM 1) (dst := slot2 aLM 2) (q := fullShare.right) (dev15_eq c) (by decide) rfl (by decide) rfl rfl rfl rfl
    (Entails.of_eq rfl) (by rw [dev15_eq]; exact Entails.of_eq (by show _ = sl (wl c) (slot2 aLM 2) fullShare (L0 m (wr (wr (wr (wl c))))); rw [wr_wl]; rfl)) rfl rfl rfl rfl rfl) $$ HE HL' [Hd'] HO Ht2 Hr2 Ht2'
  · rw [dev15_eq]; iexact Hd'
  iintro Hc' HO
  iapply wp_rt
  iapply H $$ HR HL Hc Hc' HO

/-- They are put into the result. -/
theorem part34 (c : Dev nD) (v29 v1203 v1204 : BitVec 32) (v1205 v1206 : BitVec 1) {a₀ a₁ a₂ a₃ : Vec F S4x64x1024 .f32} {Q : PUnit → sProp 𝕄} :
    outR c ![a₀, a₁, a₂, a₃] ⊢ iprop(sl c (slot2 aRM 1) fullShare.left (RR m 1 c) -∗ sl c (slot2 aLM 1) fullShare.left (LL m 1 c)
      -∗ (outR c ![a₀, a₁, a₂, setHalf 1 (setHalf 0 a₃ (rB (RR m 1 c))) (lB (LL m 1 c))] -∗ sl c (slot2 aRM 1) fullShare.left (RR m 1 c)
        -∗ sl c (slot2 aLM 1) fullShare.left (LL m 1 c) -∗ Q ⟨⟩)
      -∗ wpc c (ap (k0_part34 (F := F)) c v29 v1203 v1204 v1205 v1206) Q) := by
  unfold ap
  rw [k0_part34_eq_skeleton]; unfold k0_part34_skel
  simp only [Prog.lift, Prog.bind_op, Prog.bind_ret, Prog.pure_eq_ret]
  iintro Ho HR HL H
  iapply (wp_ld_slot2 (c := c) aRM 1) $$ HR
  iintro HR
  iapply (wp_ld_h (c := c) 3 0 (off12_at c).2.1) $$ Ho
  iintro Ho
  iapply (wp_st_h (c := c) 3 0 ![a₀, a₁, a₂, setHalf 0 a₃ (rB (RR m 1 c))] rfl (vec_ne3 _ _ _ _ _) (off12_at c).2.1) $$ Ho
  iintro Ho
  iapply (wp_ld_slot2 (c := c) aLM 1) $$ HL
  iintro HL
  iapply (wp_ld_h (c := c) 3 1 (off13_at c).2) $$ Ho
  iintro Ho
  iapply (wp_st_h (c := c) (H := ![a₀, a₁, a₂, setHalf 0 a₃ (rB (RR m 1 c))]) 3 1 ![a₀, a₁, a₂, setHalf 1 (setHalf 0 a₃ (rB (RR m 1 c))) (lB (LL m 1 c))] rfl (vec_ne3 _ _ _ _ _) (off13_at c).2) $$ Ho
  iintro Ho
  iapply wp_rt
  iapply H $$ Ho HR HL

/-- The third landings. -/
theorem part35 (c : Dev nD) (v29 v79 v92 : BitVec 32) (w : Vec F S2x64x1024 .f32) (hw : k0_pay90 (uns2 (RR m 2 c)) = w)
    {Q : (Σ' (_ : FVec F S2x64x1024 .f32) (_ : BitVec 32) (_ : BitVec 32) (_ : BitVec 1) (_ : BitVec 1), BitVec 32) → sProp 𝕄} :
    env m K ⊢ iprop(owesE c 15 -∗ crd c 17 -∗ pos c 17 0 -∗ crd c 23 -∗ pos c 23 0
      -∗ (∀ a b d e f, sl c (slot2 aRM 2) fullShare (RR m 2 c) -∗ sl c (slot2 aLM 2) fullShare (LL m 2 c) -∗ owesE c 15 -∗ pos c 17 1 -∗ pos c 23 1
        -∗ Q ⟨w, a, b, d, e, f⟩)
      -∗ wpc c (ap (k0_part35 (F := F)) v29 v79 v92) Q) := by
  subst hw
  unfold ap
  rw [k0_part35_eq_skeleton]; unfold k0_part35_skel
  simp only [Prog.lift, Prog.bind_op, Prog.bind_ret, Prog.pure_eq_ret]
  iintro #HE HO Hc Ha Hc' Ha' H
  iapply (wp_wt m K c 17 0 15 (dst := slot2 aRM 2) rfl (by decide) (by decide) rfl (by decide) 1 rfl (sl c (slot2 aRM 2) fullShare (RR m 2 c)) (Entails.of_eq rfl)) $$ HE Hc HO Ha
  iintro HO Ha - HR
  iapply (wp_wt m K c 23 0 15 (dst := slot2 aLM 2) rfl (by decide) (by decide) rfl (by decide) 1 rfl (sl c (slot2 aLM 2) fullShare (LL m 2 c)) (Entails.of_eq rfl)) $$ HE Hc' HO Ha'
  iintro HO Ha' - HL
  iapply (wp_ld_slot2 (c := c) aRM 2) $$ HR
  iintro HR
  iapply wp_rt
  iapply H $$ HR HL HO Ha Ha'

/-- They are put into the result; the first send right has left. -/
theorem part36 (c : Dev nD) (v29 v1259 v1260 : BitVec 32) (v1261 v1262 : BitVec 1) (v0 : BitVec 32) {a₀ a₁ a₂ a₃ : Vec F S4x64x1024 .f32} {Q : PUnit → sProp 𝕄} :
    env m K ⊢ iprop(outR c ![a₀, a₁, a₂, a₃] -∗ sl c (slot2 aLM 2) fullShare (LL m 2 c) -∗ owesE c 15 -∗ crd c 12 -∗ pos c 12 0
      -∗ (outR c ![setHalf 1 a₀ (lB (LL m 2 c)), a₁, setHalf 0 a₂ (rB (RR m 2 c)), a₃] -∗ sl c (slot2 aLM 2) fullShare (LL m 2 c) -∗ slE c gRM -∗ owesE c 15 -∗ pos c 12 1 -∗ Q ⟨⟩)
      -∗ wpc c (ap (k0_part36 (F := F)) c v29 (rB (RR m 2 c)) v1259 v1260 v1261 v1262 v0) Q) := by
  unfold ap
  rw [k0_part36_eq_skeleton]; unfold k0_part36_skel
  simp only [Prog.lift, Prog.bind_op, Prog.bind_ret, Prog.pure_eq_ret]
  iintro #HE Ho HL HO Hc Ha H
  iapply (wp_ld_h (c := c) 2 0 (off12_at c).2.2) $$ Ho
  iintro Ho
  iapply (wp_st_h (c := c) 2 0 ![a₀, a₁, setHalf 0 a₂ (rB (RR m 2 c)), a₃] rfl (vec_ne2 _ _ _ _ _) (off12_at c).2.2) $$ Ho
  iintro Ho
  iapply (wp_ld_slot2 (c := c) aLM 2) $$ HL
  iintro HL
  iapply (wp_ld_h (c := c) 0 1 (off14_at c)) $$ Ho
  iintro Ho
  iapply (wp_st_h (c := c) 0 1 ![setHalf 1 a₀ (lB (LL m 2 c)), a₁, setHalf 0 a₂ (rB (RR m 2 c)), a₃] rfl (vec_ne0 _ _ _ _ _) (off14_at c)) $$ Ho
  iintro Ho
  iapply (wp_wt m K c 12 0 15 (dst := gRM) rfl (by decide) (by decide) rfl (by decide) 1 rfl (slE c gRM) (Entails.of_eq rfl)) $$ HE Hc HO Ha
  iintro HO Ha - Hg
  iapply wp_rt
  iapply H $$ Ho HL Hg HO Ha

/-- The first send left, and the second ones, have left. -/
theorem part37 (c : Dev nD) {Q : PUnit → sProp 𝕄} :
    env m K ⊢ iprop(owesE c 15 -∗ crd c 18 -∗ pos c 18 0 -∗ crd c 13 -∗ pos c 13 0 -∗ crd c 19 -∗ pos c 19 0
      -∗ (owesE c 15 -∗ slE c gLM -∗ sl c (slot2 aRM 0) fullShare.right (RR m 0 c) -∗ sl c (slot2 aLM 0) fullShare.right (LL m 0 c)
        -∗ pos c 18 1 -∗ pos c 13 1 -∗ pos c 19 1 -∗ Q ⟨⟩)
      -∗ wpc c (ap (k0_part37 (F := F))) Q) := by
  unfold ap
  rw [k0_part37_eq_skeleton]; unfold k0_part37_skel
  simp only [Prog.lift, Prog.bind_op, Prog.bind_ret, Prog.pure_eq_ret]
  iintro #HE HO Hc Ha Hc1 Ha1 Hc2 Ha2 H
  iapply (wp_wt m K c 18 0 15 (dst := gLM) rfl (by decide) (by decide) rfl (by decide) 1 rfl (slE c gLM) (Entails.of_eq rfl)) $$ HE Hc HO Ha
  iintro HO Ha - Hg
  iapply (wp_wt m K c 13 0 15 (dst := slot2 aRM 0) rfl (by decide) (by decide) rfl (by decide) 1 rfl (sl c (slot2 aRM 0) fullShare.right (RR m 0 c)) (Entails.of_eq rfl)) $$ HE Hc1 HO Ha1
  iintro HO Ha1 - HR
  iapply (wp_wt m K c 19 0 15 (dst := slot2 aLM 0) rfl (by decide) (by decide) rfl (by decide) 1 rfl (sl c (slot2 aLM 0) fullShare.right (LL m 0 c)) (Entails.of_eq rfl)) $$ HE Hc2 HO Ha2
  iintro HO Ha2 - HL
  iapply wp_rt
  iapply H $$ HO Hg HR HL Ha Ha1 Ha2

end Cert.Mesh

end
-- ==== Proof.Run.lean ====
/- The kernel's body on one device, whole: from what the device starts with to its result and everything handed back. -/
module

public import proofs.«01_k».proof.Proof.BodyC

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 24 → ℕ)

/-! ## What a device starts the body with, phase by phase -/

/-- The copies in and the barrier; -/
def res0 (c : Dev nD) : sProp 𝕄 :=
  iprop((kvSrc c (kvS KM c) (m ((c : Thread nD τ).loc main_arg3)) ∗ kvSrc c (kvS VM c) (m ((c : Thread nD τ).loc main_arg4)))
    ∗ (slE c kM ∗ slE c vM ∗ slE c wqM ∗ slE c woM)
    ∗ (sl c xM fullShare (xv m c) ∗ sl c qM fullShare (qv m c) ∗ sl c pM fullShare (pv m c))
    ∗ (slE c (slot4 rsM 0) ∗ slE c (slot4 rsM 1) ∗ slE c (slot4 rsM 2))
    ∗ (slE c (slot2 aRM 0) ∗ slE c (slot2 aRM 1) ∗ slE c (slot2 aRM 2))
    ∗ (slE c (slot2 aLM 0) ∗ slE c (slot2 aLM 1) ∗ slE c (slot2 aLM 2)) ∗ slE c zAM ∗ slE c zBM
    ∗ (tok c 0 ∗ tok c 1 ∗ tok c 2 ∗ tok c 3 ∗ tok c 4 ∗ tok c 5) ∗ crd c 0 ∗ pos c 0 0 ∗ pos c 1 0 ∗ pos c 2 0)
/-- the first exchange; -/
def res1 (c : Dev nD) : sProp 𝕄 :=
  iprop((slE c (slot4 stM 0) ∗ slE c (slot4 stM 1) ∗ slE c (slot4 stM 2))
    ∗ (tok c 6 ∗ tok c 7 ∗ tok c 8 ∗ tok c 9 ∗ tok c 10 ∗ tok c 11) ∗ (crd c 6 ∗ crd c 7 ∗ crd c 8)
    ∗ (pos c 3 0 ∗ pos c 4 0 ∗ pos c 5 0) ∗ pos c 6 0 ∗ pos c 7 0 ∗ pos c 8 0)
/-- the second; -/
def res2 (c : Dev nD) : sProp 𝕄 :=
  iprop(slE c psM ∗ (tok c 12 ∗ tok c 13 ∗ tok c 14 ∗ tok c 27) ∗ (crd c 10 ∗ crd c 11) ∗ pos c 9 0 ∗ pos c 10 0 ∗ pos c 11 0)
/-- the third. -/
def res3 (c : Dev nD) : sProp 𝕄 :=
  iprop((slE c gRM ∗ slE c gLM)
    ∗ (tok c 15 ∗ tok c 16 ∗ tok c 17 ∗ tok c 18 ∗ tok c 19 ∗ tok c 20)
    ∗ (tok c 21 ∗ tok c 22 ∗ tok c 23 ∗ tok c 24 ∗ tok c 25 ∗ tok c 26)
    ∗ (crd c 15 ∗ crd c 16 ∗ crd c 17 ∗ crd c 21 ∗ crd c 22 ∗ crd c 23)
    ∗ (pos c 12 0 ∗ pos c 13 0 ∗ pos c 14 0 ∗ pos c 15 0 ∗ pos c 16 0 ∗ pos c 17 0)
    ∗ pos c 18 0 ∗ pos c 19 0 ∗ pos c 20 0 ∗ pos c 21 0 ∗ pos c 22 0 ∗ pos c 23 0)

/-! ## What it ends with -/

def fin0 (c : Dev nD) : sProp 𝕄 :=
  iprop((kvSrc c (kvS KM c) (m ((c : Thread nD τ).loc main_arg3)) ∗ kvSrc c (kvS VM c) (m ((c : Thread nD τ).loc main_arg4)))
    ∗ (slE c kM ∗ slE c vM ∗ slE c wqM ∗ slE c woM)
    ∗ (sl c xM fullShare (xv m c) ∗ sl c qM fullShare (qv m c) ∗ sl c pM fullShare (pv m c)) ∗ pos c 0 1 ∗ pos c 1 1 ∗ pos c 2 1)
def fin1 (c : Dev nD) : sProp 𝕄 :=
  iprop((slE c (slot4 stM 0) ∗ slE c (slot4 stM 1) ∗ slE c (slot4 stM 2))
    ∗ (slE c (slot4 rsM 0) ∗ slE c (slot4 rsM 1) ∗ slE c (slot4 rsM 2))
    ∗ (pos c 3 1 ∗ pos c 4 1 ∗ pos c 5 1) ∗ pos c 6 1 ∗ pos c 7 1 ∗ pos c 8 1)
def fin2 (c : Dev nD) : sProp 𝕄 :=
  iprop(slE c psM ∗ slE c zAM ∗ slE c zBM ∗ pos c 9 2 ∗ pos c 10 1 ∗ pos c 11 1)
def fin3 (c : Dev nD) : sProp 𝕄 :=
  iprop((slE c gRM ∗ slE c gLM)
    ∗ (slE c (slot2 aRM 0) ∗ slE c (slot2 aRM 1) ∗ slE c (slot2 aRM 2))
    ∗ (slE c (slot2 aLM 0) ∗ slE c (slot2 aLM 1) ∗ slE c (slot2 aLM 2))
    ∗ (pos c 12 1 ∗ pos c 13 1 ∗ pos c 14 1 ∗ pos c 15 1 ∗ pos c 16 1 ∗ pos c 17 1)
    ∗ pos c 18 1 ∗ pos c 19 1 ∗ pos c 20 1 ∗ pos c 21 1 ∗ pos c 22 1 ∗ pos c 23 1)

/-! ## The result -/

theorem set_rl (a : Vec F S4x64x1024 .f32) (r l : Vec F S2x64x1024 .bf16) : setHalf 1 (setHalf 0 a (rB r)) (lB l) = glue r l := by
  funext j
  unfold setHalf glue
  rcases (by omega : hi (j 0) = 0 ∨ hi (j 0) = 1) with h | h
  · rw [if_neg (by rw [h]; decide), if_pos h, if_pos h]
  · rw [if_pos h, if_neg (by rw [h]; decide)]

theorem set_lr (a : Vec F S4x64x1024 .f32) (r l : Vec F S2x64x1024 .bf16) : setHalf 0 (setHalf 1 a (lB l)) (rB r) = glue r l := by
  funext j
  unfold setHalf glue
  rcases (by omega : hi (j 0) = 0 ∨ hi (j 0) = 1) with h | h
  · rw [if_pos h, if_pos h]
  · rw [if_neg (by rw [h]; decide), if_pos h, if_neg (by rw [h]; decide)]

theorem wr3 (c : Dev nD) : wr (wr (wr c)) = wl c := by revert c; decide
theorem wl3 (c : Dev nD) : wl (wl (wl c)) = wr c := by revert c; decide
theorem wr2 (c : Dev nD) : wr (wr c) = wl (wl c) := by revert c; decide

/-- The groups as the stores leave them are the groups of the result. -/
theorem outG_eq (c : Dev nD) (a₀ a₂ a₃ : Vec F S4x64x1024 .f32) :
    ![setHalf 1 (setHalf 0 a₀ (rB (RR m 0 c))) (lB (LL m 2 c)), B2 m c, setHalf 0 (setHalf 1 a₂ (lB (LL m 0 c))) (rB (RR m 2 c)),
      setHalf 1 (setHalf 0 a₃ (rB (RR m 1 c))) (lB (LL m 1 c))] = outG m c := by
  rw [set_rl, set_lr, set_rl]
  funext d
  match d with
  | 0 => show glue (R0 m (wl c)) (L0 m (wr (wr (wr c)))) = glue _ _; rw [wr3]
  | 1 => rfl
  | 2 => show glue (R0 m (wl (wl (wl c)))) (L0 m (wr c)) = glue _ _; rw [wl3]
  | 3 => show glue (R0 m (wl (wl c))) (L0 m (wr (wr c))) = glue _ _; rw [wr2]

/-! ## The body -/

theorem wp_bd {α β : Type} {c : Dev nD} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc; rw [wp_bind]

omit [FloatOps F] in
/-- Both half shares of a block are all of it. -/
theorem sl_both {sp : Space} {s : Shape} {e : EltTy} (c : Dev nD) (M : Memref sig .tc sp s e) {X Y : s.Idx → Elt F e} :
    sl c M fullShare.left X ⊢ (iprop(sl c M fullShare.right Y -∗ slE c M) : sProp 𝕄) := by
  iintro H H'
  iapply sl_any
  iapply sl_whole
  isplitl [H]; · iexact H
  iexact H'

omit [FloatOps F] in
/-- Everything the barrier brings. -/
theorem bar_all (c : Dev nD) : (iprop(barPay c 0 ∗ barPay c 1 ∗ barPay c 2 ∗ barPay c 3) : sProp 𝕄)
    = iprop((slE (wr c) (slot4 rsM 0) ∗ slE (wr c) (slot4 rsM 1) ∗ slE (wr c) (slot4 rsM 2)
        ∗ slE (wr c) (slot2 aRM 0) ∗ slE (wr c) (slot2 aRM 1) ∗ slE (wr c) (slot2 aRM 2))
      ∗ (slE (wl c) (slot2 aLM 0) ∗ slE (wl c) (slot2 aLM 1) ∗ slE (wl c) (slot2 aLM 2)) ∗ slE (pA c) zAM ∗ slE (pB c) zBM) := rfl

set_option maxHeartbeats 4000000 in
theorem run_body (c : Dev nD) {b₀ b₁ b₂ b₃ : Vec F S4x64x1024 .f32} {Q : PUnit → sProp 𝕄} :
    env m K ⊢ iprop(res0 m c -∗ res1 c -∗ res2 c -∗ res3 c -∗ outR c ![b₀, b₁, b₂, b₃] -∗ owesE c 0
      -∗ (fin0 m c -∗ fin1 c -∗ fin2 c -∗ fin3 c -∗ outR c (outG m c) -∗ owesE c 15 -∗ Q ⟨⟩)
      -∗ wpc c (ap (cc0__body (F := F))) Q) := by
  unfold ap
  rw [cc0__body_eq_skeleton]; unfold cc0__body_skel
  iintro #HE H0 H1 H2 H3 Ho HO H
  unfold res0
  icases H0 with ⟨⟨HsK, HsV⟩, ⟨Hk, Hv, Hwq, Hwo⟩, ⟨Hx, Hq, Hp⟩, ⟨Hr0, Hr1, Hr2⟩, ⟨HR0, HR1, HR2⟩, ⟨HL0, HL1, HL2⟩, HzA, HzB, ⟨Ht0, Ht1, Ht2, Ht3, Ht4, Ht5⟩, Hc0, Ha0, Ha1, Ha2⟩
  iapply wp_bd
  iapply (part1 c)
  iintro %v2 %v19 %v29 %v31 %v32 %v37
  dsimp only
  iapply wp_bd
  iapply (part2 c)
  iintro %v39 %v66 %v67 %v70 %v71 %v76
  dsimp only
  iapply wp_bd
  iapply (part3 m K c) $$ HE HsK HsV Hk Hv Ht4 Ht5 Hq Hwq
  iintro %v79 %v92 %v95 %v98 %v110 Hc1 Hc2 Hq Hwq
  dsimp only
  iapply wp_bd
  iapply (part4 m K c) $$ HE Hwq Hp Hwo HO Ht0 Ht1 Ht2 Ht3 [Hr0 Hr1 Hr2 HR0 HR1 HR2] [HL0 HL1 HL2] HzA HzB Hc0 Hc1 Hc2 Ha0 Ha1 Ha2
  · isplitl [Hr0]; · iexact Hr0
    isplitl [Hr1]; · iexact Hr1
    isplitl [Hr2]; · iexact Hr2
    isplitl [HR0]; · iexact HR0
    isplitl [HR1]; · iexact HR1
    iexact HR2
  · isplitl [HL0]; · iexact HL0
    isplitl [HL1]; · iexact HL1
    iexact HL2
  iintro Hwq Hp Hwo HO Ha0 Ha1 Ha2 Hbar HkP HvP
  ihave Hbar := (Entails.of_eq (bar_all c)) $$ Hbar
  unfold kvPay
  icases Hbar with ⟨⟨Hr0, Hr1, Hr2, HR0, HR1, HR2⟩, ⟨HL0, HL1, HL2⟩, HzA, HzB⟩
  icases HkP with ⟨Hk, HsK⟩
  icases HvP with ⟨Hv, HsV⟩
  ihave Hi : inp m c $$ [Hx Hwq Hk Hv]
  · unfold inp
    isplitl [Hx]; · iexact Hx
    isplitl [Hwq]; · iexact Hwq
    isplitl [Hk]; · iexact Hk
    iexact Hv
  unfold res1
  icases H1 with ⟨⟨Hs0, Hs1, Hs2⟩, ⟨Ht6, Ht7, Ht8, Ht9, Ht10, Ht11⟩, ⟨Hc6, Hc7, Hc8⟩, ⟨Ha3, Ha4, Ha5⟩, Ha6, Ha7, Ha8⟩
  iapply wp_bd
  iapply (part5 m c) $$ Hi
  iintro Hi
  dsimp only
  iapply wp_bd
  iapply (part6 c)
  dsimp only
  iapply wp_bd
  iapply (part7 c)
  dsimp only
  iapply wp_bd
  iapply (part8 m c (G := P m c (wF c)) (hG := rfl)) $$ Hwo Ho
  iintro %v312 %v313 Hwo Ho
  dsimp only
  iapply wp_bd
  iapply (part9 m K c) $$ HE Ho Hs0 Hr0 HO Ht6 Ht9
  iintro %v343 Ho Hc3 HO
  iapply wp_bd
  iapply (part10 m c) $$ Hi
  iintro Hi
  dsimp only
  iapply wp_bd
  iapply (part11 c)
  dsimp only
  iapply wp_bd
  iapply (part12 c)
  dsimp only
  iapply wp_bd
  iapply (part13 m c (G := P m c (wF c + 3)) (hG := rfl)) $$ Hwo Ho
  iintro Hwo Ho
  iapply wp_bd
  iapply (part14 m K c) $$ HE Ho Hs1 Hc6 HO Ha6
  iintro Ho Hs1 Hr0 HO Ha6
  iapply wp_bd
  iapply (part15 m K c) $$ HE Hs1 Hr1 HO Ht7 Ht10 Hi
  iintro %v572 Hc4 HO Hi
  dsimp only
  iapply wp_bd
  iapply (part16 m c) $$ Hi
  iintro Hi
  dsimp only
  iapply wp_bd
  iapply (part17 c)
  dsimp only
  iapply wp_bd
  iapply (part18 c)
  dsimp only
  iapply wp_bd
  iapply (part19 m K c (G := P m c (wF c + 2)) (hG := rfl)) $$ HE Hwo Ho Hc7 HO Ha7
  iintro Hwo Ho Hr1 HO Ha7
  iapply wp_bd
  iapply (part20 m c) $$ Hr1 Ho Hs2
  iintro Hr1 Ho Hs2
  iapply wp_bd
  iapply (part21 m K c) $$ HE Hs2 Hr2 HO Ht8 Ht11 Hi
  iintro %v801 Hc5 HO Hi
  dsimp only
  iapply wp_bd
  iapply (part22 c)
  dsimp only
  iapply wp_bd
  iapply (part23 c)
  dsimp only
  iapply wp_bd
  iapply (part24 c)
  dsimp only
  iapply wp_bd
  iapply (part25 m K c (hG := rfl)) $$ HE Hwo Ho Hc8 HO Ha8
  iintro Hwo Ho Hr2 HO Ha8
  iapply wp_bd
  iapply (part26 m K c) $$ HE HO Hc3 Hc4 Hc5 Ha3 Ha4 Ha5
  iintro %w₁ %w₂ %w₃ %w₄ HO Hs0 Hs1 Hs2 Ha3 Ha4 Ha5
  dsimp only
  ihave F1 : fin1 c $$ [Hs0 Hs1 Hs2 Hr0 Hr1 Hr2 Ha3 Ha4 Ha5 Ha6 Ha7 Ha8]
  · unfold fin1
    isplitl [Hs0 Hs1 Hs2]
    · isplitl [Hs0]; · iexact Hs0
      isplitl [Hs1]; · iexact Hs1
      iexact Hs2
    isplitl [Hr0 Hr1 Hr2]
    · isplitl [Hr0]; · iapply sl_any; iexact Hr0
      isplitl [Hr1]; · iapply sl_any; iexact Hr1
      iapply sl_any; iexact Hr2
    isplitl [Ha3 Ha4 Ha5]
    · isplitl [Ha3]; · iexact Ha3
      isplitl [Ha4]; · iexact Ha4
      iexact Ha5
    isplitl [Ha6]; · iexact Ha6
    isplitl [Ha7]; · iexact Ha7
    iexact Ha8
  unfold res2
  icases H2 with ⟨Hps, ⟨Ht12, Ht13, Ht14, Ht27⟩, ⟨Hc10, Hc11⟩, Ha9, Ha10, Ha11⟩
  unfold res3
  icases H3 with ⟨⟨HgR, HgL⟩, ⟨Ht15, Ht16, Ht17, Ht18, Ht19, Ht20⟩, ⟨Ht21, Ht22, Ht23, Ht24, Ht25, Ht26⟩, ⟨Hc15, Hc16, Hc17, Hc21, Hc22, Hc23⟩,
    ⟨Ha12, Ha13, Ha14, Ha15, Ha16, Ha17⟩, Ha18, Ha19, Ha20, Ha21, Ha22, Ha23⟩
  iapply wp_bd
  iapply (part27 m K c (G := B1 m c) (hG := rfl)) $$ HE Ho Hps HzA HO Ht12 Ht13 Ha9 Hc10 Ha10
  iintro %v1017 Ho Hps HzA HO Ha9 Hre Ha10
  dsimp only
  iapply wp_bd
  iapply (part28 m K c) $$ HE Ho Hps HzB HO Ht27 Ht14 Hre Ha9 Hc11 Ha11 HgR
  iintro %v1068 Ho Hps HzB HO Ha9 Ha11 HgR
  dsimp only
  ihave F2 : fin2 c $$ [Hps HzA HzB Ha9 Ha10 Ha11]
  · unfold fin2
    isplitl [Hps]; · iexact Hps
    isplitl [HzA]; · iapply sl_any; iexact HzA
    isplitl [HzB]; · iapply sl_any; iexact HzB
    isplitl [Ha9]; · iexact Ha9
    isplitl [Ha10]; · iexact Ha10
    iexact Ha11
  iapply wp_bd
  iapply (part29 m K c) $$ HE Ho HgR HgL HR0 HL0 HO Ht15 Ht18 Ht21 Ht24
  iintro Ho Hc12 Hc18 HO
  iapply wp_bd
  iapply (part30 m K c) $$ HE HR1 HO Ht16 Ht19 Hc15 Ha15 Hc21 Ha21
  iintro HR0 HL0 Hc13 HO Ha15 Ha21
  iapply wp_bd
  iapply (part31 m K c) $$ HE Ho HR0 HL0 HL1 HO Ht22 Ht25
  iintro %v1148 %v1149 %v1154 Ho HR0 HL0 Hc19 HO
  dsimp only
  iapply wp_bd
  iapply (part32 m K c) $$ HE Ho HL0 HO Hc16 Ha16 Hc22 Ha22
  iintro Ho HL0 HR1 HL1 HO Ha16 Ha22
  iapply wp_bd
  iapply (part33 m K c) $$ HE HR1 HL1 HR2 HL2 HO Ht17 Ht20 Ht23 Ht26
  iintro %v1203 %v1204 %v1205 %v1206 HR1 HL1 Hc14 Hc20 HO
  dsimp only
  iapply wp_bd
  iapply (part34 m c) $$ Ho HR1 HL1
  iintro Ho HR1 HL1
  iapply wp_bd
  iapply (part35 m K c (w := rB (RR m 2 c)) (hw := rfl)) $$ HE HO Hc17 Ha17 Hc23 Ha23
  iintro %u₁ %u₂ %u₃ %u₄ %u₅ HR2 HL2 HO Ha17 Ha23
  dsimp only
  iapply wp_bd
  iapply (part36 m K c) $$ HE Ho HL2 HO Hc12 Ha12
  iintro Ho HL2 HgR HO Ha12
  iapply wp_bd
  iapply (part37 m K c) $$ HE HO Hc18 Ha18 Hc13 Ha13 Hc19 Ha19
  iintro HO HgL HR0' HL0' Ha18 Ha13 Ha19
  simp only [Prog.lift, Prog.bind_op, Prog.bind_ret, Prog.pure_eq_ret]
  iapply (wp_wt m K c 14 0 15 (dst := slot2 aRM 1) rfl (by decide) (by decide) rfl (by decide) 1 rfl (sl c (slot2 aRM 1) fullShare.right (RR m 1 c)) (Entails.of_eq rfl)) $$ HE Hc14 HO Ha14
  iintro HO Ha14 - HR1'
  iapply (wp_wt m K c 20 0 15 (dst := slot2 aLM 1) rfl (by decide) (by decide) rfl (by decide) 1 rfl (sl c (slot2 aLM 1) fullShare.right (LL m 1 c)) (Entails.of_eq rfl)) $$ HE Hc20 HO Ha20
  iintro HO Ha20 - HL1'
  iapply wp_rt
  ihave Ho := (Entails.of_eq (congrArg (outR c) (outG_eq m c (P m c (wF c)) (A2 m c) (A1 m c)))) $$ Ho
  ihave F0 : fin0 m c $$ [HsK HsV Hi Hwo Hq Hp Ha0 Ha1 Ha2]
  · unfold fin0 kvSrc inp
    icases Hi with ⟨Hx, Hwq, Hk, Hv⟩
    isplitl [HsK HsV]
    · isplitl [HsK]; · iexact HsK
      iexact HsV
    isplitl [Hk Hv Hwq Hwo]
    · isplitl [Hk]; · iapply sl_any; iexact Hk
      isplitl [Hv]; · iapply sl_any; iexact Hv
      isplitl [Hwq]; · iapply sl_any; iexact Hwq
      iapply sl_any; iexact Hwo
    isplitl [Hx Hq Hp]
    · isplitl [Hx]; · iexact Hx
      isplitl [Hq]; · iexact Hq
      iexact Hp
    isplitl [Ha0]; · iexact Ha0
    isplitl [Ha1]; · iexact Ha1
    iexact Ha2
  ihave F3 : fin3 c $$ [HgR HgL HR0 HR0' HR1 HR1' HR2 HL0 HL0' HL1 HL1' HL2 Ha12 Ha13 Ha14 Ha15 Ha16 Ha17 Ha18 Ha19 Ha20 Ha21 Ha22 Ha23]
  · unfold fin3
    isplitl [HgR HgL]
    · isplitl [HgR]; · iexact HgR
      iexact HgL
    isplitl [HR0 HR0' HR1 HR1' HR2]
    · isplitl [HR0 HR0']; · iapply (sl_both c (slot2 aRM 0)) $$ HR0 HR0'
      isplitl [HR1 HR1']; · iapply (sl_both c (slot2 aRM 1)) $$ HR1 HR1'
      iapply sl_any; iexact HR2
    isplitl [HL0 HL0' HL1 HL1' HL2]
    · isplitl [HL0 HL0']; · iapply (sl_both c (slot2 aLM 0)) $$ HL0 HL0'
      isplitl [HL1 HL1']; · iapply (sl_both c (slot2 aLM 1)) $$ HL1 HL1'
      iapply sl_any; iexact HL2
    isplitl [Ha12 Ha13 Ha14 Ha15 Ha16 Ha17]
    · isplitl [Ha12]; · iexact Ha12
      isplitl [Ha13]; · iexact Ha13
      isplitl [Ha14]; · iexact Ha14
      isplitl [Ha15]; · iexact Ha15
      isplitl [Ha16]; · iexact Ha16
      iexact Ha17
    isplitl [Ha18]; · iexact Ha18
    isplitl [Ha19]; · iexact Ha19
    isplitl [Ha20]; · iexact Ha20
    isplitl [Ha21]; · iexact Ha21
    isplitl [Ha22]; · iexact Ha22
    iexact Ha23
  iapply H $$ F0 F1 F2 F3 Ho HO

end Cert.Mesh

end
-- ==== Proof.Bufs.lean ====
/- A device's buffers as the launch holds them, cut into the blocks the body works on, and put back. -/
module

public import proofs.«01_k».proof.Proof.Run
public import Idealize.ShloMosaic.Lib.Ring

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 24 → ℕ)

/-! ## A scratch buffer whole -/

/-- Device `c`'s buffer `b`, holding anything. -/
abbrev scr (c : Dev nD) (b : Ref sig .tc) : sProp 𝕄 := iprop(∃ f : Buf (Elt F) ((c : Thread nD τ).loc b), ((c : Thread nD τ).loc b) ↦{fullShare} f)

omit [FloatOps F] in
/-- A whole buffer is one block; -/
theorem scr_eq (c : Dev nD) (b : Ref sig .tc) : (scr c b : sProp 𝕄) = slE c (Memref.whole b) := by
  unfold slE; simp only [Memref.view_whole, View.set_whole]

omit [FloatOps F] in
/-- its value likewise. -/
theorem stg_eq (c : Dev nD) (b : Ref sig .tc) (X : b.ty.Contents (Elt F)) :
    (sl c (Memref.whole b) fullShare X : sProp 𝕄)
      = iprop(∃ f : Buf (Elt F) (((c : Dev nD) : Thread nD τ).loc b), ⌜f = X⌝ ∗ (((c : Thread nD τ).loc b) ↦{fullShare} f)) := by
  unfold sl; simp only [Memref.view_whole, View.read_whole, View.set_whole]

/-! ## A buffer of three slots -/

section Slots

theorem rc4_disj : ∀ s s' : Fin 3, s ≠ s' → Disjoint (rc4 s).set (rc4 s').set := fun s s' h =>
  Finset.disjoint_left.mpr fun i hi hi' => by
    have h0 := (Rect.mem_set_unit.mp hi) (0 : Fin 4)
    have h1 := (Rect.mem_set_unit.mp hi') (0 : Fin 4)
    have a1 : s.val ≤ (i 0).val := h0.1
    have a2 : (i 0).val < s.val + 1 := h0.2
    have b1 : s'.val ≤ (i 0).val := h1.1
    have b2 : (i 0).val < s'.val + 1 := h1.2
    exact h (Fin.ext (by omega))
theorem rc2_disj : ∀ s s' : Fin 3, s ≠ s' → Disjoint (rc2 s).set (rc2 s').set := fun s s' h =>
  Finset.disjoint_left.mpr fun i hi hi' => by
    have h0 := (Rect.mem_set_unit.mp hi) (0 : Fin 4)
    have h1 := (Rect.mem_set_unit.mp hi') (0 : Fin 4)
    have a1 : s.val ≤ (i 0).val := h0.1
    have a2 : (i 0).val < s.val + 1 := h0.2
    have b1 : s'.val ≤ (i 0).val := h1.1
    have b2 : (i 0).val < s'.val + 1 := h1.2
    exact h (Fin.ext (by omega))

theorem rc4_cover : Finset.univ.biUnion (fun s : Fin 3 => (rc4 s).set) = Finset.univ :=
  Finset.eq_univ_of_forall fun i => Finset.mem_biUnion.mpr ⟨⟨(i 0).val, (i 0).isLt⟩, Finset.mem_univ _, Rect.mem_set_unit.mpr fun a => by
    match a with
    | 0 => exact ⟨le_rfl, Nat.lt_succ_self _⟩
    | 1 => exact ⟨Nat.zero_le _, lt_of_lt_of_eq (i 1).isLt (Nat.zero_add _).symm⟩
    | 2 => exact ⟨Nat.zero_le _, lt_of_lt_of_eq (i 2).isLt (Nat.zero_add _).symm⟩
    | 3 => exact ⟨Nat.zero_le _, lt_of_lt_of_eq (i 3).isLt (Nat.zero_add _).symm⟩⟩
theorem rc2_cover : Finset.univ.biUnion (fun s : Fin 3 => (rc2 s).set) = Finset.univ :=
  Finset.eq_univ_of_forall fun i => Finset.mem_biUnion.mpr ⟨⟨(i 0).val, (i 0).isLt⟩, Finset.mem_univ _, Rect.mem_set_unit.mpr fun a => by
    match a with
    | 0 => exact ⟨le_rfl, Nat.lt_succ_self _⟩
    | 1 => exact ⟨Nat.zero_le _, lt_of_lt_of_eq (i 1).isLt (Nat.zero_add _).symm⟩
    | 2 => exact ⟨Nat.zero_le _, lt_of_lt_of_eq (i 2).isLt (Nat.zero_add _).symm⟩
    | 3 => exact ⟨Nat.zero_le _, lt_of_lt_of_eq (i 3).isLt (Nat.zero_add _).symm⟩⟩

omit [FloatOps F] in
/-- A buffer cut into three blocks that cover it, -/
theorem scr_cut (c : Dev nD) (b : Ref sig .tc) (I : Fin 3 → Finset (Idx ((c : Thread nD τ).loc b))) (hd : ∀ s s', s ≠ s' → Disjoint (I s) (I s'))
    (hc : Finset.univ.biUnion I = Finset.univ) (P : Fin 3 → sProp 𝕄) (hP : ∀ s, P s = iprop(∃ f, (((c : Thread nD τ).loc b) ↦[I s]{fullShare} f))) :
    scr c b ⊢ iprop(P 0 ∗ P 1 ∗ P 2) := by
  rw [hP, hP, hP]
  iintro ⟨%f, H⟩
  ihave H' := (Entails.of_eq ((Ring.pointsTo_blocks I hd hc f).trans (Ring.bigSep_fin3 _))) $$ H
  icases H' with ⟨H0, H1, H2⟩
  isplitl [H0]; · iexists f; iexact H0
  isplitl [H1]; · iexists f; iexact H1
  iexists f; iexact H2

omit [FloatOps F] in
/-- and put back. -/
theorem scr_join (c : Dev nD) (b : Ref sig .tc) (I : Fin 3 → Finset (Idx ((c : Thread nD τ).loc b))) (hd : ∀ s s', s ≠ s' → Disjoint (I s) (I s'))
    (hc : Finset.univ.biUnion I = Finset.univ) (P : Fin 3 → sProp 𝕄) (hP : ∀ s, P s = iprop(∃ f, (((c : Thread nD τ).loc b) ↦[I s]{fullShare} f))) :
    iprop(P 0 ∗ P 1 ∗ P 2) ⊢ scr c b := by
  rw [hP, hP, hP]
  iintro ⟨⟨%f, H0⟩, H1, H2⟩
  iapply (Ring.pointsTo_blocks_join_exists I hd hc f)
  iapply (Entails.of_eq (Ring.bigSep_fin3 _).symm)
  isplitl [H0]; · iexists f; iexact H0
  isplitl [H1]; · iexact H1
  iexact H2

omit [FloatOps F] in
theorem slot4_eq (c : Dev nD) (M : Memref sig .tc .vmem S3x4x64x1024 .bf16) (s : Fin 3) :
    (slE c (slot4 M s) : sProp 𝕄) = slE c (M.slice (rc4 s) (fun _ => rfl)) := slE_squeeze _
omit [FloatOps F] in
theorem slot2_eq (c : Dev nD) (M : Memref sig .tc .vmem S3x2x64x1024 .bf16) (s : Fin 3) :
    (slE c (slot2 M s) : sProp 𝕄) = slE c (M.slice (rc2 s) (fun _ => rfl)) := slE_squeeze _

omit [FloatOps F] in
/-- A buffer of three slots of four batches is its slots; -/
theorem slots4 (c : Dev nD) (b : Ref sig .tc) (M : Memref sig .tc .vmem S3x4x64x1024 .bf16) (I : Fin 3 → Finset (Idx ((c : Thread nD τ).loc b)))
    (hd : ∀ s s', s ≠ s' → Disjoint (I s) (I s')) (hc : Finset.univ.biUnion I = Finset.univ)
    (hM : ∀ s, (slE c (M.slice (rc4 s) (fun _ => rfl)) : sProp 𝕄) = iprop(∃ f, (((c : Thread nD τ).loc b) ↦[I s]{fullShare} f))) :
    (scr c b : sProp 𝕄) ⊣⊢ iprop(slE c (slot4 M 0) ∗ slE c (slot4 M 1) ∗ slE c (slot4 M 2)) :=
  ⟨scr_cut c b I hd hc (fun s => slE c (slot4 M s)) fun s => (slot4_eq c M s).trans (hM s),
   scr_join c b I hd hc (fun s => slE c (slot4 M s)) fun s => (slot4_eq c M s).trans (hM s)⟩
omit [FloatOps F] in
/-- of two batches. -/
theorem slots2 (c : Dev nD) (b : Ref sig .tc) (M : Memref sig .tc .vmem S3x2x64x1024 .bf16) (I : Fin 3 → Finset (Idx ((c : Thread nD τ).loc b)))
    (hd : ∀ s s', s ≠ s' → Disjoint (I s) (I s')) (hc : Finset.univ.biUnion I = Finset.univ)
    (hM : ∀ s, (slE c (M.slice (rc2 s) (fun _ => rfl)) : sProp 𝕄) = iprop(∃ f, (((c : Thread nD τ).loc b) ↦[I s]{fullShare} f))) :
    (scr c b : sProp 𝕄) ⊣⊢ iprop(slE c (slot2 M 0) ∗ slE c (slot2 M 1) ∗ slE c (slot2 M 2)) :=
  ⟨scr_cut c b I hd hc (fun s => slE c (slot2 M s)) fun s => (slot2_eq c M s).trans (hM s),
   scr_join c b I hd hc (fun s => slE c (slot2 M s)) fun s => (slot2_eq c M s).trans (hM s)⟩

omit [FloatOps F] in
theorem slots_st (c : Dev nD) : (scr c cc0_scratch4 : sProp 𝕄) ⊣⊢ iprop(slE c (slot4 stM 0) ∗ slE c (slot4 stM 1) ∗ slE c (slot4 stM 2)) :=
  slots4 c cc0_scratch4 stM (fun s => (rc4 s).set) rc4_disj rc4_cover fun s => by unfold slE; rw [← View.set_slice_whole cc0_scratch4]
omit [FloatOps F] in
theorem slots_rs (c : Dev nD) : (scr c cc0_scratch6 : sProp 𝕄) ⊣⊢ iprop(slE c (slot4 rsM 0) ∗ slE c (slot4 rsM 1) ∗ slE c (slot4 rsM 2)) :=
  slots4 c cc0_scratch6 rsM (fun s => (rc4 s).set) rc4_disj rc4_cover fun s => by unfold slE; rw [← View.set_slice_whole cc0_scratch6]
omit [FloatOps F] in
theorem slots_aR (c : Dev nD) : (scr c cc0_scratch11 : sProp 𝕄) ⊣⊢ iprop(slE c (slot2 aRM 0) ∗ slE c (slot2 aRM 1) ∗ slE c (slot2 aRM 2)) :=
  slots2 c cc0_scratch11 aRM (fun s => (rc2 s).set) rc2_disj rc2_cover fun s => by unfold slE; rw [← View.set_slice_whole cc0_scratch11]
omit [FloatOps F] in
theorem slots_aL (c : Dev nD) : (scr c cc0_scratch12 : sProp 𝕄) ⊣⊢ iprop(slE c (slot2 aLM 0) ∗ slE c (slot2 aLM 1) ∗ slE c (slot2 aLM 2)) :=
  slots2 c cc0_scratch12 aLM (fun s => (rc2 s).set) rc2_disj rc2_cover fun s => by unfold slE; rw [← View.set_slice_whole cc0_scratch12]

end Slots

/-! ## The columns of the keys and values a device copies -/

/-- What is left of device `c`'s array `M` beside the columns it copies. -/
def kvOff (c : Dev nD) (M : Memref sig .tc .hbm S4x1024x4096 .f32) (f : Buf (Elt F) ((kvS M c).view.loc (c : Thread nD τ))) : sProp 𝕄 :=
  iprop((kvS M c).view.loc (c : Thread nD τ) ↦[Finset.univ \ (kvS M c).view.set]{fullShare} f)

omit [FloatOps F] in
theorem kv_cut (c : Dev nD) (M : Memref sig .tc .hbm S4x1024x4096 .f32) (f : Buf (Elt F) ((kvS M c).view.loc (c : Thread nD τ))) :
    ((kvS M c).view.loc (c : Thread nD τ) ↦{fullShare} f : sProp 𝕄) ⊣⊢ iprop(kvSrc c (kvS M c) f ∗ kvOff c M f) := by
  unfold kvSrc kvOff
  exact pointsTo_split_subset (Finset.subset_univ _)

/-! ## The output -/

omit [FloatOps F] in
/-- Any contents are four groups; -/
theorem out_any (c : Dev nD) (X : Vec F S16x64x1024 .f32) :
    sl c oM fullShare X ⊢ (outR c ![fun j => X ((rg (wF c + 0)).emb j), fun j => X ((rg (wF c + 1)).emb j), fun j => X ((rg (wF c + 2)).emb j),
      fun j => X ((rg (wF c + 3)).emb j)] : sProp 𝕄) := by
  unfold outR
  iintro H
  iexists X
  isplitr
  · ipureintro
    intro d j
    match d with
    | 0 => rfl
    | 1 => rfl
    | 2 => rfl
    | 3 => rfl
  iexact H

/-- the groups of the result are the result. -/
theorem out_at (c : Dev nD) : outR c (outG m c) ⊢ (sl c oM fullShare (outAt m c) : sProp 𝕄) := by
  unfold outR
  iintro ⟨%X, %h, H⟩
  have e : X = outAt m c := by
    funext j
    have := h (gq (j 0) - wF c) (ix3 (gr (j 0)) (j 1) (j 2))
    rw [add_sub_cancel] at this
    show _ = outG m c (gq (j 0) - wF c) (ix3 (gr (j 0)) (j 1) (j 2))
    rw [← this]
    refine congrArg X (funext fun a => Fin.ext ?_)
    rw [rg_val]
    match a with
    | 0 => show (j 0).val = 4 * ((j 0).val / 4) + (j 0).val % 4; omega
    | 1 => exact (Nat.zero_add _).symm
    | 2 => exact (Nat.zero_add _).symm
  rw [e]
  iexact H

end Cert.Mesh

end
-- ==== Proof.Body.lean ====
/- What a device holds before and after the kernel's one point, and the body's obligation there. -/
module

public import proofs.«01_k».proof.Proof.Bufs
public import proofs.«01_k».proof.Proof.Gen.KernelIdeal.Points

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 24 → ℕ)

/-! ## Families listed -/

omit [FloatOps F] in
theorem fin24 (Φ : Fin 24 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21
      ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
omit [FloatOps F] in
theorem fin28 (Φ : Fin 28 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21
      ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

/-- The cells other devices pay. -/
def paid : Finset (Fin 24) := {0, 6, 7, 8, 10, 11, 15, 16, 17, 21, 22, 23}

omit [FloatOps F] in
theorem fin_paid (Φ : Fin 24 → sProp 𝕄) : bigSep paid Φ
    = iprop(Φ 0 ∗ Φ 6 ∗ Φ 7 ∗ Φ 8 ∗ Φ 10 ∗ Φ 11 ∗ Φ 15 ∗ Φ 16 ∗ Φ 17 ∗ Φ 21 ∗ Φ 22 ∗ Φ 23) :=
  bigSep_eq_bigSepL_of_eq [0, 6, 7, 8, 10, 11, 15, 16, 17, 21, 22, 23] (by decide) (by decide) Φ

/-! ## Before and after the point -/

/-- A device's places in its own cells and the tokens of the duties it pays. -/
def lin (c : Dev nD) : sProp 𝕄 := iprop((bigSep Finset.univ fun k => pos c k 0) ∗ bigSep Finset.univ fun j => tok c j)

/-- The keys and the values as launched. -/
def args (c : Dev nD) : sProp 𝕄 :=
  iprop((((c : Thread nD τ).loc main_arg3) ↦{fullShare} m ((c : Thread nD τ).loc main_arg3))
    ∗ (((c : Thread nD τ).loc main_arg4) ↦{fullShare} m ((c : Thread nD τ).loc main_arg4)))

/-- What device `c` starts with beside its scratch. -/
def start (c : Dev nD) : sProp 𝕄 := iprop(∃ K, env m K ∗ lin c ∗ (bigSep paid fun k => crd c k) ∗ args m c)

def Φ₀ (c : Dev nD) : sProp 𝕄 := iprop(start m c ∗ Pipeline.scopedRest cfg0.spec c)
/-- After the point every cell is closed at zero. -/
def Φ₁ (c : Dev nD) : sProp 𝕄 := iprop((bigSep Finset.univ fun k : Fin 24 => semVal (kcell (c, k)) 0) ∗ args m c ∗ Pipeline.scopedRest cfg0.spec c)

/-- The three input windows staged. -/
def ins (c : Dev nD) : sProp 𝕄 := iprop(sl c xM fullShare (xv m c) ∗ sl c qM fullShare (qv m c) ∗ sl c pM fullShare (pv m c))

/-- What is left aside of the keys and the values. -/
def offs (c : Dev nD) : sProp 𝕄 :=
  iprop(kvOff c KM (m ((c : Thread nD τ).loc main_arg3)) ∗ kvOff c VM (m ((c : Thread nD τ).loc main_arg4)))

set_option maxHeartbeats 1000000 in
/-- What a device starts with, dealt to the body's phases. -/
theorem enter (c : Dev nD) :
    iprop(lin c ∗ (bigSep paid fun k => crd c k) ∗ args m c ∗ Pipeline.scopedRest cfg0.spec c ∗ ins m c)
      ⊢ iprop(res0 m c ∗ res1 c ∗ res2 c ∗ res3 c ∗ offs m c) := by
  unfold lin args ins offs
  rw [fin24, fin28, fin_paid, scopedRest0_eq]
  iintro ⟨⟨⟨A0, A1, A2, A3, A4, A5, A6, A7, A8, A9, A10, A11, A12, A13, A14, A15, A16, A17, A18, A19, A20, A21, A22, A23⟩,
      T0, T1, T2, T3, T4, T5, T6, T7, T8, T9, T10, T11, T12, T13, T14, T15, T16, T17, T18, T19, T20, T21, T22, T23, T24, T25, T26, T27⟩,
    ⟨C0, C6, C7, C8, C10, C11, C15, C16, C17, C21, C22, C23⟩, ⟨HK, HV⟩,
    ⟨B0, B1, B2, B3, B4, B5, B6, B7, B8, B9, B10, B11, B12⟩, HI⟩
  ihave HK := (kv_cut c KM (m ((c : Thread nD τ).loc main_arg3))).1 $$ HK
  ihave HV := (kv_cut c VM (m ((c : Thread nD τ).loc main_arg4))).1 $$ HV
  icases HK with ⟨HK, HKo⟩
  icases HV with ⟨HV, HVo⟩
  ihave B0 := (Entails.of_eq (scr_eq c cc0_scratch0)) $$ B0
  ihave B1 := (Entails.of_eq (scr_eq c cc0_scratch1)) $$ B1
  ihave B2 := (Entails.of_eq (scr_eq c cc0_scratch2)) $$ B2
  ihave B3 := (Entails.of_eq (scr_eq c cc0_scratch3)) $$ B3
  ihave B4 := (slots_st c).1 $$ B4
  ihave B5 := (Entails.of_eq (scr_eq c cc0_scratch5)) $$ B5
  ihave B6 := (slots_rs c).1 $$ B6
  ihave B7 := (Entails.of_eq (scr_eq c cc0_scratch7)) $$ B7
  ihave B8 := (Entails.of_eq (scr_eq c cc0_scratch8)) $$ B8
  ihave B9 := (Entails.of_eq (scr_eq c cc0_scratch9)) $$ B9
  ihave B10 := (Entails.of_eq (scr_eq c cc0_scratch10)) $$ B10
  ihave B11 := (slots_aR c).1 $$ B11
  ihave B12 := (slots_aL c).1 $$ B12
  isplitl [HK HV B0 B1 B2 B3 HI B6 B7 B8 B11 B12 T0 T1 T2 T3 T4 T5 C0 A0 A1 A2]
  · unfold res0
    isplitl [HK HV]
    · isplitl [HK]; · iexact HK
      iexact HV
    isplitl [B0 B1 B2 B3]
    · isplitl [B2]; · iexact B2
      isplitl [B3]; · iexact B3
      isplitl [B0]; · iexact B0
      iexact B1
    isplitl [HI]; · iexact HI
    isplitl [B6]; · iexact B6
    isplitl [B11]; · iexact B11
    isplitl [B12]; · iexact B12
    isplitl [B7]; · iexact B7
    isplitl [B8]; · iexact B8
    isplitl [T0 T1 T2 T3 T4 T5]
    · isplitl [T0]; · iexact T0
      isplitl [T1]; · iexact T1
      isplitl [T2]; · iexact T2
      isplitl [T3]; · iexact T3
      isplitl [T4]; · iexact T4
      iexact T5
    isplitl [C0]; · iexact C0
    isplitl [A0]; · iexact A0
    isplitl [A1]; · iexact A1
    iexact A2
  isplitl [B4 T6 T7 T8 T9 T10 T11 C6 C7 C8 A3 A4 A5 A6 A7 A8]
  · unfold res1
    isplitl [B4]; · iexact B4
    isplitl [T6 T7 T8 T9 T10 T11]
    · isplitl [T6]; · iexact T6
      isplitl [T7]; · iexact T7
      isplitl [T8]; · iexact T8
      isplitl [T9]; · iexact T9
      isplitl [T10]; · iexact T10
      iexact T11
    isplitl [C6 C7 C8]
    · isplitl [C6]; · iexact C6
      isplitl [C7]; · iexact C7
      iexact C8
    isplitl [A3 A4 A5]
    · isplitl [A3]; · iexact A3
      isplitl [A4]; · iexact A4
      iexact A5
    isplitl [A6]; · iexact A6
    isplitl [A7]; · iexact A7
    iexact A8
  isplitl [B5 T12 T13 T14 T27 C10 C11 A9 A10 A11]
  · unfold res2
    isplitl [B5]; · iexact B5
    isplitl [T12 T13 T14 T27]
    · isplitl [T12]; · iexact T12
      isplitl [T13]; · iexact T13
      isplitl [T14]; · iexact T14
      iexact T27
    isplitl [C10 C11]
    · isplitl [C10]; · iexact C10
      iexact C11
    isplitl [A9]; · iexact A9
    isplitl [A10]; · iexact A10
    iexact A11
  isplitr [HKo HVo]
  · unfold res3
    isplitl [B9 B10]
    · isplitl [B9]; · iexact B9
      iexact B10
    isplitl [T15 T16 T17 T18 T19 T20]
    · isplitl [T15]; · iexact T15
      isplitl [T16]; · iexact T16
      isplitl [T17]; · iexact T17
      isplitl [T18]; · iexact T18
      isplitl [T19]; · iexact T19
      iexact T20
    isplitl [T21 T22 T23 T24 T25 T26]
    · isplitl [T21]; · iexact T21
      isplitl [T22]; · iexact T22
      isplitl [T23]; · iexact T23
      isplitl [T24]; · iexact T24
      isplitl [T25]; · iexact T25
      iexact T26
    isplitl [C15 C16 C17 C21 C22 C23]
    · isplitl [C15]; · iexact C15
      isplitl [C16]; · iexact C16
      isplitl [C17]; · iexact C17
      isplitl [C21]; · iexact C21
      isplitl [C22]; · iexact C22
      iexact C23
    isplitl [A12 A13 A14 A15 A16 A17]
    · isplitl [A12]; · iexact A12
      isplitl [A13]; · iexact A13
      isplitl [A14]; · iexact A14
      isplitl [A15]; · iexact A15
      isplitl [A16]; · iexact A16
      iexact A17
    isplitl [A18]; · iexact A18
    isplitl [A19]; · iexact A19
    isplitl [A20]; · iexact A20
    isplitl [A21]; · iexact A21
    isplitl [A22]; · iexact A22
    iexact A23
  isplitl [HKo]; · iexact HKo
  iexact HVo

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell past its last round closes at zero; -/
theorem close_one (c : Dev nD) (k : Fin 24) : iprop(env m K ∗ pos c k (rnds k)) ⊢ |={Set.univ}=> (semVal (kcell (c, k)) 0 : sProp 𝕄) := by
  unfold env pos
  iintro ⟨⟨#HR, -⟩, Ha⟩
  ihave Hcell := (rec_at m K c k) $$ HR
  icases Hcell with ⟨#Hi, -⟩
  iapply (Rounds.cell_close ER (Rd m) (Set.mem_univ (K (c, k))) (fun h => h) (R := rnds k) (Rd_done m c k))
  isplitr; · iexact Hi
  iexact Ha

/-- all of them do. -/
theorem close_all (c : Dev nD) : iprop(env m K ∗ bigSep Finset.univ fun k => pos c k (rnds k))
    ⊢ |={Set.univ}=> (bigSep Finset.univ fun k : Fin 24 => semVal (kcell (c, k)) 0 : sProp 𝕄) :=
  (with_persistent fun k _ => close_one m K c k).trans (bigSep_fupd _ _)

set_option maxHeartbeats 1000000 in
/-- What the phases leave, collected. -/
theorem leave (c : Dev nD) :
    iprop(fin0 m c ∗ fin1 c ∗ fin2 c ∗ fin3 c ∗ offs m c)
      ⊢ iprop((bigSep Finset.univ fun k => pos c k (rnds k)) ∗ args m c ∗ Pipeline.scopedRest cfg0.spec c ∗ ins m c) := by
  unfold fin0 fin1 fin2 fin3 args ins offs
  rw [fin24, scopedRest0_eq]
  iintro ⟨⟨⟨HK, HV⟩, ⟨B2, B3, B0, B1⟩, HI, A0, A1, A2⟩, ⟨B4, B6, ⟨A3, A4, A5⟩, A6, A7, A8⟩, ⟨B5, B7, B8, A9, A10, A11⟩,
    ⟨⟨B9, B10⟩, B11, B12, ⟨A12, A13, A14, A15, A16, A17⟩, A18, A19, A20, A21, A22, A23⟩, HKo, HVo⟩
  isplitl [A0 A1 A2 A3 A4 A5 A6 A7 A8 A9 A10 A11 A12 A13 A14 A15 A16 A17 A18 A19 A20 A21 A22 A23]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    iexact A23
  isplitl [HK HV HKo HVo]
  · isplitl [HK HKo]
    · iapply (kv_cut c KM (m ((c : Thread nD τ).loc main_arg3))).2
      isplitl [HK]; · iexact HK
      iexact HKo
    · iapply (kv_cut c VM (m ((c : Thread nD τ).loc main_arg4))).2
      isplitl [HV]; · iexact HV
      iexact HVo
  isplitr [HI]
  · isplitl [B0]; · iapply (Entails.of_eq (scr_eq c cc0_scratch0).symm); iexact B0
    isplitl [B1]; · iapply (Entails.of_eq (scr_eq c cc0_scratch1).symm); iexact B1
    isplitl [B2]; · iapply (Entails.of_eq (scr_eq c cc0_scratch2).symm); iexact B2
    isplitl [B3]; · iapply (Entails.of_eq (scr_eq c cc0_scratch3).symm); iexact B3
    isplitl [B4]; · iapply (slots_st c).2; iexact B4
    isplitl [B5]; · iapply (Entails.of_eq (scr_eq c cc0_scratch5).symm); iexact B5
    isplitl [B6]; · iapply (slots_rs c).2; iexact B6
    isplitl [B7]; · iapply (Entails.of_eq (scr_eq c cc0_scratch7).symm); iexact B7
    isplitl [B8]; · iapply (Entails.of_eq (scr_eq c cc0_scratch8).symm); iexact B8
    isplitl [B9]; · iapply (Entails.of_eq (scr_eq c cc0_scratch9).symm); iexact B9
    isplitl [B10]; · iapply (Entails.of_eq (scr_eq c cc0_scratch10).symm); iexact B10
    isplitl [B11]; · iapply (slots_aR c).2; iexact B11
    iapply (slots_aL c).2; iexact B12
  iexact HI

/-! ## The proof data and the obligation -/

variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => qv m c
    | ⟨2, _⟩ => pv m c
    | ⟨3, _⟩ => outAt m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem before_x (c : Dev nD) (d) : (dats m ρ 0 c).before (0 : Fin 4) t0_0 d = xv m c := by
  unfold Dat.before; rw [if_pos (fetch0_0 t0_0)]; rfl
theorem before_q (c : Dev nD) (d) : (dats m ρ 0 c).before (1 : Fin 4) t0_0 d = qv m c := by
  unfold Dat.before; rw [if_pos (fetch0_1 t0_0)]; rfl
theorem before_p (c : Dev nD) (d) : (dats m ρ 0 c).before (2 : Fin 4) t0_0 d = pv m c := by
  unfold Dat.before; rw [if_pos (fetch0_2 t0_0)]; rfl

def bodyPre (c : Dev nD) : sProp 𝕄 :=
  iprop(Φ₀ m c ∗ (dats m ρ 0 c).owesAt () (t0_0 : Fin cfg0.N).castSucc
    ∗ (∃ d, sl c xM fullShare ((dats m ρ 0 c).before (0 : Fin 4) t0_0 d))
    ∗ (∃ d, sl c qM fullShare ((dats m ρ 0 c).before (1 : Fin 4) t0_0 d))
    ∗ (∃ d, sl c pM fullShare ((dats m ρ 0 c).before (2 : Fin 4) t0_0 d))
    ∗ (∃ d, sl c oM fullShare ((dats m ρ 0 c).before (3 : Fin 4) t0_0 d)))
def bodyPost (c : Dev nD) : sProp 𝕄 :=
  iprop(Φ₁ m c ∗ (dats m ρ 0 c).owesAt () (t0_0 : Fin cfg0.N).succ
    ∗ sl c xM fullShare (xv m c) ∗ sl c qM fullShare (qv m c) ∗ sl c pM fullShare (pv m c) ∗ sl c oM fullShare (outAt m c))

/-- The body on device `c`, from what the pipeline hands it to what it takes back. -/
theorem sound (c : Dev nD) : bodyPre m ρ c ⊢ wpc c (ap (cc0__body (F := F))) (fun _ => bodyPost m ρ c) := by
  unfold bodyPre Φ₀ start Dat.owesAt Pipeline.owesWithin
  simp only [before_x, before_q, before_p]
  rw [show (dats m ρ 0 c).owed (t0_0 : Fin cfg0.N).castSucc = owed c 0 from rfl]
  iintro ⟨⟨⟨%K, #HE, Hl, Hc, Ha⟩, Hr⟩, ⟨%W, %hW, HO⟩, ⟨%d0, Hx⟩, ⟨%d1, Hq⟩, ⟨%d2, Hp⟩, ⟨%d3, Ho⟩⟩
  ihave H := (enter m c) $$ [Hl Hc Ha Hr Hx Hq Hp]
  · isplitl [Hl]; · iexact Hl
    isplitl [Hc]; · iexact Hc
    isplitl [Ha]; · iexact Ha
    isplitl [Hr]; · iexact Hr
    unfold ins
    isplitl [Hx]; · iexact Hx
    isplitl [Hq]; · iexact Hq
    iexact Hp
  icases H with ⟨H0, H1, H2, H3, Hoff⟩
  ihave Ho := (out_any c ((dats m ρ 0 c).before (3 : Fin 4) t0_0 d3)) $$ Ho
  ihave HO : owesE c 0 $$ [HO]
  · unfold owesE; iexists W; iexact HO
  iapply (wp_fupd _ _ _ _ _)
  iapply (run_body m K c) $$ HE H0 H1 H2 H3 Ho HO
  iintro F0 F1 F2 F3 Ho HO
  ihave H := (leave m c) $$ [F0 F1 F2 F3 Hoff]
  · isplitl [F0]; · iexact F0
    isplitl [F1]; · iexact F1
    isplitl [F2]; · iexact F2
    isplitl [F3]; · iexact F3
    iexact Hoff
  icases H with ⟨Hpos, Ha, Hr, Hi⟩
  imod (close_all m K c) $$ [Hpos] with Hz
  · isplitr; · iexact HE
    iexact Hpos
  imodintro
  unfold bodyPost Φ₁ Dat.owesAt Pipeline.owesWithin
  rw [show (dats m ρ 0 c).owed (t0_0 : Fin cfg0.N).succ = 0 from rfl]
  isplitl [Hz Ha Hr]
  · isplitl [Hz]; · iexact Hz
    isplitl [Ha]; · iexact Ha
    iexact Hr
  isplitl [HO]
  · unfold owesE
    icases HO with ⟨%W', HO⟩
    iexists W'
    isplitr; · ipureintro; exact fun _ _ => Or.inl trivial
    ihave HO := (Entails.of_eq (congrArg (fun O => owes (c : Thread nD τ) O W') (owed_done c))) $$ HO
    iexact HO
  unfold ins
  icases Hi with ⟨Hx, Hq, Hp⟩
  isplitl [Hx]; · iexact Hx
  isplitl [Hq]; · iexact Hq
  isplitl [Hp]; · iexact Hp
  iapply (out_at m c); iexact Ho

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  exact sound m ρ c

end Cert.Mesh

end
-- ==== Proof.Launch.lean ====
/- The launch: the ghost state and the credit dealt to the devices, and the run of the whole program. -/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- The kernel's own semaphores: every one but the barrier. -/
abbrev osem : Fin 23 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

def meshCells : Finset (GSem nD τ sig) := Finset.univ.map ⟨kcell, kcell_injective⟩

/-- Device `c`'s own cells' duty under number `j`, as minted. -/
abbrev tokOf (cj : Dev nD × Fin 28) : GSem nD τ sig × ℕ × Fin 4 := (kcell (cj.1, tk cj.2), tr cj.2, td cj.2)
theorem tokOf_injective : Function.Injective tokOf := by
  rintro ⟨c, j⟩ ⟨c', j'⟩ h
  have h0 : ((c, tk j) : Dev nD × Fin 24) = (c', tk j') := kcell_injective (congrArg (fun x : GSem nD τ sig × ℕ × Fin 4 => x.1) h)
  have h1 : tr j = tr j' := congrArg (fun x : GSem nD τ sig × ℕ × Fin 4 => x.2.1) h
  have h2 : td j = td j' := congrArg (fun x : GSem nD τ sig × ℕ × Fin 4 => x.2.2) h
  exact Prod.ext (congrArg (fun x : Dev nD × Fin 24 => x.1) h0) (t_inj j j' (congrArg Prod.snd h0) h1 h2)
def meshToks : Finset (GSem nD τ sig × ℕ × Fin 4) := Finset.univ.map ⟨tokOf, tokOf_injective⟩

def u₀ : UU :=
  (initOf (Pipeline.cells cfgs cellOf_inj) (Pipeline.launchToks cfgs cellOf_inj), initOf meshCells meshToks)

/-- The duty tokens of device `c`'s own cells. -/
def toks (c : Dev nD) : sProp 𝕄 := bigSep Finset.univ fun j : Fin 28 => dutyTok ER (kcell (c, tk j)) (tr j) (td j)

/-- What the launch element deals device `c`. -/
def G (c : Dev nD) : sProp 𝕄 :=
  iprop((bigSep Finset.univ fun k : Fin 24 => roundState ER (Rd m) (kcell (c, k)) 0)
    ∗ ((bigSep Finset.univ fun k : Fin 24 => pos c k 0) ∗ (bigSep Finset.univ fun k : Fin 24 => reached ER (kcell (c, k)) 0)) ∗ toks c)

/-- What the global step makes of it. -/
def G' (c : Dev nD) : sProp 𝕄 := iprop(∃ K, records m K ∗ lin c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 24 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks toks; rw [bigSep_map, bigSep_univ_prod]; rfl
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

omit [FloatOps F] in
/-- A device's semaphores, its own and the barrier. -/
theorem sems_eq (c : Dev nD) :
    (bigSep Finset.univ fun k : Fin 24 => semVal (kcell (c, k)) 0 : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (kcell (c, 0)) 0 := by
    unfold unscopedSems0; rw [bigSep_eq_bigSepL_of_eq [SemLoc.reg barS] (by decide) (by decide)]; rfl
  rw [hu, Fin.univ_succ, Finset.cons_eq_insert, bigSep_insert (by simp [Fin.succ_ne_zero]), bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => reached ER (kcell (c, k)) 0) ∗ (bigSep Finset.univ fun k => pos c k 0) ∗ toks c) := by
  unfold G
  iintro ⟨Hos, Hus, Hst, ⟨Hat, Hr⟩, Htok⟩
  ihave Hv := (Entails.of_eq (sems_eq (F := F) c).symm) $$ [Hos Hus]
  · isplitl [Hus] <;> iassumption
  imod (show iprop((bigSep Finset.univ fun k : Fin 24 => semVal (kcell (c, k)) 0) ∗ bigSep Finset.univ fun k : Fin 24 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

omit [FloatOps F] in
/-- The tokens dealt to the devices that pay. -/
theorem toks_deal : (bigSep Finset.univ fun c : Dev nD => (toks c : sProp 𝕄)) = bigSep Finset.univ fun c : Dev nD => bigSep Finset.univ fun j : Fin 28 => tok c j := by
  unfold toks
  rw [BI.bigSep_univ_comm, bigSep_congr (s := Finset.univ) (fun (j : Fin 28) _ =>
    bigSep_univ_equiv (peer j) (fun c : Dev nD => (dutyTok ER (kcell (c, tk j)) (tr j) (td j) : sProp 𝕄))), BI.bigSep_univ_comm]
  rfl

theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ (bigSep Finset.univ fun k => pos c k 0) ∗ toks c) : sProp 𝕄)
      ⊢ bigSep Finset.univ (G' m) := by
  rw [bigSep_sep', bigSep_sep', bigSep_sep', toks_deal, ← bigSep_univ_prod (fun ck : Dev nD × Fin 24 => iprop(∃ κ : ℕ, cellInv ER (Rd m) κ (kcell ck))),
    ← bigSep_univ_prod (fun ck : Dev nD × Fin 24 => (reached ER (kcell ck) 0 : sProp 𝕄))]
  iintro ⟨HI, #HR, Hat, Htok⟩
  ihave HK := (BI.bigSep_exists_pi Finset.univ (fun (ck : Dev nD × Fin 24) (κ : ℕ) => (cellInv ER (Rd m) κ (kcell ck) : sProp 𝕄))) $$ HI
  icases HK with ⟨%K, #HI⟩
  iapply (with_persistent (R := records m K) (Φ := fun c => lin c) fun c _ => show iprop(records m K ∗ lin c) ⊢ G' m c from by
    unfold G'; iintro H; iexists K; iexact H)
  isplitr
  · unfold records; rw [bigSep_sep']; isplitl; · iexact HI
    iexact HR
  · unfold lin; rw [bigSep_sep']
    isplitl [Hat]; · iexact Hat
    iexact Htok

/-- The global step: all semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What every device owes a paid cell, summed, is all its first round brings. -/
theorem owed_sum (c : Dev nD) (k : Fin 24) (hk : k ∈ paid) : ∑ d : Dev nD, owed d 0 (kcell (c, k)) () = need k := by
  have h1 (d : Dev nD) : owed d 0 (kcell (c, k)) () = ∑ i : Fin 15, if d = (peer (ot i)).symm c then (if tk (ot i) = k then amt k else 0) else 0 := by
    unfold owed
    rw [Finset.sum_apply, Finsupp.finset_sum_apply]
    refine Finset.sum_congr rfl fun i _ => ?_
    rw [if_pos (Nat.zero_le _), tallyAt_apply]
    by_cases hd : d = (peer (ot i)).symm c
    · rw [if_pos hd]
      by_cases ht : tk (ot i) = k
      · rw [if_pos ht, if_pos ⟨by rw [hd, ← ht]; unfold oc; rw [Equiv.apply_symm_apply], rfl⟩]; unfold oa; rw [ht]
      · rw [if_neg ht, if_neg fun h => ht (congrArg Prod.snd (kcell_injective h.1)).symm]
    · rw [if_neg hd, if_neg fun h => hd (by
        have := congrArg Prod.fst (kcell_injective h.1)
        exact ((Equiv.symm_apply_eq _).mpr this).symm)]
  rw [Finset.sum_congr rfl fun d _ => h1 d, Finset.sum_comm]
  simp only [Finset.sum_ite_eq', Finset.sum_ite_eq, Finset.mem_univ, if_true]
  rw [← Finset.sum_filter, Finset.sum_const, smul_eq_mul,
    (by decide : ∀ k ∈ paid, (Finset.univ.filter fun i : Fin 15 => tk (ot i) = k).card = if k.val = 0 then 4 else 1) k hk]
  unfold need
  split
  · rw [show amt k = 1 from if_pos ‹_›]
  · rw [one_mul]

omit [FloatOps F] in
theorem creds (c : Dev nD) : (Pipeline.launchCred (fun d => owed d 0) c : sProp 𝕄) ⊢ bigSep paid fun k => crd c k := by
  unfold Pipeline.launchCred
  refine (bigSep_subset (t := paid.map ⟨csem, csem_inj⟩) (Finset.subset_univ _)).trans ?_
  rw [bigSep_map]
  refine bigSep_mono fun k hk => ?_
  have h : tallyOn (kcell (c, k)) (launchCredit (Pipeline.owing fun d => owed d 0) 0 (kcell (c, k))) = (tallyAt (kcell (c, k)) () (need k) : CellTallies nD τ sig Unit) := by
    unfold tallyAt
    refine congrArg _ (Finsupp.ext fun u => ?_)
    cases u
    rw [Pipeline.launchCredit_owing, Finsupp.single_eq_same, owed_sum c k hk]
  have e : (cred (tallyOn (kcell (c, k)) (launchCredit (Pipeline.owing fun d => owed d 0) 0 (kcell (c, k)))) : sProp 𝕄) ⊢ crd c k := by
    unfold crd
    rw [h]
  exact e

/-! ## The run -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, unscopedRest0_eq]
  unfold start G' env args
  iintro ⟨Ha, Hlev, Hcr, -, ⟨%K, HR, Hl⟩⟩
  ihave Hc := (creds (F := F) c) $$ Hcr
  imodintro
  isplitl
  · iexists K
    isplitl [HR Hlev]
    · isplitl [HR] <;> iassumption
    isplitl [Hl]; · iexact Hl
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl]
  unfold Φ₁
  rw [sems_eq]
  iintro ⟨⟨Hu, Ho⟩, Ha, Hr⟩
  isplitl [Hu Ha]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h : ∀ i : Fin 15, lv ((c : Thread nD τ), .dma ((cfg0.win w).sem s)) () < lvK (tk (ot i)) := by
      have h0 : kOf (.dma ((cfg0.win w).sem s)) = none := by fin_cases w <;> fin_cases s <;> decide
      intro i
      show (match kOf (.dma ((cfg0.win w).sem s)) with | some k => lvK k | none => 0) < _
      rw [h0]
      revert i; decide
    rcases t with ⟨_ | _, ht⟩
    · exact mayWait_of c _ 0 fun i _ => h i
    · show _ ⊢ MayWait _ _ () 0
      rw [MayWait_zero]; iintro -; iempintro

/-- The arrays of the windows after the run. -/
def finalA (c : Dev nD) (w : Fin cfg0.W) : Buf (Elt F) ((cfg0.win w).arr.view.loc (c : Thread nD τ)) := (dats m ρ 0 c).arrAt w cfg0.N

/-- After the run: the windows' arrays, the keys and the values of every device. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3)
    ∧ r.2.mem ((c : Thread nD τ).loc main_arg4) = m ((c : Thread nD τ).loc main_arg4)

/-- On the mesh of sixteen devices, for any float values, from any memory with zero counters: every weakly fair execution
    terminates, and every final state has each window's array at the computed contents, the keys and the values unchanged
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (s.mem ((c : Thread nD τ).loc main_arg3) = m ((c : Thread nD τ).loc main_arg3)
      ∧ s.mem ((c : Thread nD τ).loc main_arg4) = m ((c : Thread nD τ).loc main_arg4))
      ∧ ∀ sm : SemLoc sig, sm.isScoped .tc = false → s.sem ((c.tc : Thread nD τ), sm) = 0)
    (hY := fun c s' => by
      unfold args
      iintro ⟨⟨Hu, H3, H4⟩, -, HSI⟩
      icombine HSI H3 gives %h3
      icombine HSI H4 gives %h4
      imod (Pipeline.unscopedSems0_read (X := unscopedSems0 c) (c := c) fupd_intro s') $$ [Hu HSI] with ⟨%hs, HSI⟩
      · isplitl [Hu] <;> iassumption
      imodintro
      isplitr; · ipureintro; exact ⟨⟨Buf.eq_of_forall_mem_univ h3, Buf.eq_of_forall_mem_univ h4⟩, hs⟩
      iexact HSI)
    (hQ := fun _ h hs => ⟨fun c => ⟨(h c).1, (h c).2.2.1⟩, sem_eq_zero hs fun c => (h c).2.2.2⟩)

/-- An input window's array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

theorem finalA_x (c : Dev nD) : finalA m ρ c 0 = m ((c : Thread nD τ).loc main_arg0) := finalA_in m ρ c 0 rfl
theorem finalA_q (c : Dev nD) : finalA m ρ c 1 = m ((c : Thread nD τ).loc main_arg1) := finalA_in m ρ c 1 rfl
theorem finalA_p (c : Dev nD) : finalA m ρ c 2 = m ((c : Thread nD τ).loc main_arg2) := finalA_in m ρ c 2 rfl

/-- The output's array after the run. -/
theorem finalA_out (c : Dev nD) : finalA m ρ c 3 = outAt m c :=
  (dats m ρ 0 c).arrAt_eq_of_after_last 3 t0_0 (by decide +kernel) _ fun j => rfl

end Cert.Mesh

end
-- ==== Proof.Frames.lean ====
/- The frames of the kernel, of its ideal form and of the reference. -/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Quiescent

@[expose] public section

set_option maxRecDepth 16384

noncomputable section

namespace Cert.Mesh

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- After the run every device's result buffer holds `outAt` of the arguments, its five arguments are unchanged, and every
    semaphore counter is zero. -/
theorem run_out : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 3).trans (finalA_out m ρ c), ((h.1 c).1 0).trans (finalA_x m ρ c),
    ((h.1 c).1 1).trans (finalA_q m ρ c), ((h.1 c).1 2).trans (finalA_p m ρ c), (h.1 c).2.1, (h.1 c).2.2⟩, h.2⟩) (run_main m ρ)

/-- The arguments unchanged, the counters zero, for any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_out m ρ)

/-- The kernel and its ideal form are one text: the body tables are equal, -/
theorem defs₀_kernel : Cert.Kernel.defs₀ (F := Bits) = Cert.KernelIdeal.defs₀ (F := Bits) := by
  unfold Cert.Kernel.defs₀ Cert.KernelIdeal.defs₀
  congr 1
  funext p a
  rcases p with ⟨_ | _, h⟩
  · rfl
  · exact absurd h (by omega)

/-- and so are the tables of the whole programs. -/
theorem defs_kernel : Cert.Kernel.defs (F := Bits) = Cert.KernelIdeal.defs (F := Bits) := by
  unfold Cert.Kernel.defs Cert.KernelIdeal.defs
  rw [defs₀_kernel]
  rfl

/-- The kernel's run at the machine's floats: the arguments unchanged, the counters zero. -/
theorem frame_kernel : Cert.quiescent_Kernel := by
  intro m ρ _
  rw [defs_kernel]
  exact frame_any (F := Bits) m ρ

/-- The same over the extended reals. -/
theorem frame_ideal : Cert.quiescent_KernelIdeal := fun m ρ _ => frame_any (F := Ideal) m ρ

/-- The reference's, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mesh

end
-- ==== Proof.Value.lean ====
/- One device's product for one batch group, read at an index over the extended reals. -/
module

public import proofs.«01_k».proof.Proof.Contents
public import Idealize.ShloMosaic.Lib.Pointwise

@[expose] public section

set_option maxRecDepth 16384

noncomputable section

namespace Cert.Mesh

open Cert.KernelIdeal Cert.KernelIdeal.Gen
open Idealize.ShloMosaic Idealize.ShloMosaic.TcCoe
open scoped BigOperators

/-! ## Attention of one query row against one head's keys and values -/

/-- The scale of the scores. -/
def scl : EReal := Ideal.ofBits .f32 0x3DB504F3#32

/-- The scores of a query against the keys; -/
def scores (q : Fin 128 → EReal) (k : Fin 1024 → Fin 128 → EReal) (j : Fin 1024) : EReal := (∑ e, q e * k j e) * scl
/-- their greatest; -/
def top (s : Fin 1024 → EReal) : EReal := Finset.univ.fold max ⊥ s
/-- their weights; -/
def wt (s : Fin 1024 → EReal) (j : Fin 1024) : EReal := Ideal.exp (s j - top s)
/-- the weighted mean of the values. -/
def mean (s v : Fin 1024 → EReal) : EReal := Ideal.div (∑ j, wt s j * v j) (∑ j, wt s j)

theorem inf_bits : Ideal.ofBits .f32 0xFF800000#32 = ⊥ := by
  simp [Ideal.ofBits, Ideal.ieee]

/-! ## One head as the kernel computes it -/

section Head
variable {F : FTy → Type} [FloatOps F]

/-- The head whose queries stand at column `a` and whose keys and values stand at column `b`. -/
def headV (Q : Vec F S256x1024 .f32) (K V : Vec F S1024x256 .bf16) (a b : ℕ)
    (hq : S256x1024.Slices ![0, a] S256x128) (hk : S1024x256.Slices ![0, b] S1024x128) : FVec F S256x128 .f32 :=
  let s : FVec F S256x1024 .f32 := mulf (matmul dot_S256x128_S1024x128_S256x1024_1_1_0_0_n_n none
      (truncf .bf16 (extractStridedSlice S256x128 ![0, a] Q hq) bitsLt_bf16_f32) (extractStridedSlice S1024x128 ![0, b] K hk)
      (constant S256x1024 .f32 0x00000000#32)) (broadcast S256x1024 (Scalar.ofBits .f32 0x3DB504F3#32))
  let p : FVec F S256x1024 .f32 := exp (subf s (broadcastTo S256x1024 (shapeCast S256x1
      (multiReduction .maximumf [1] S256 s 0xFF800000#32 reduces_S256x1024_S256 (.inl rfl) rfl) shapeCasts_S256_S256x1) broadcasts_S256x1_S256x1024))
  divf (matmul dot_S256x1024_S1024x128_S256x128_1_0_0_1_n_n none (truncf .bf16 p bitsLt_bf16_f32)
      (extractStridedSlice S1024x128 ![0, b] V hk) (constant S256x128 .f32 0x00000000#32))
    (broadcastTo S256x128 (shapeCast S256x1 (multiReduction .add [1] S256 p 0x00000000#32 reduces_S256x1024_S256 (.inl rfl) rfl)
      shapeCasts_S256_S256x1) broadcasts_S256x1_S256x128)

/-- The eight heads side by side. -/
def rowV (Q : Vec F S256x1024 .f32) (K V : Vec F S1024x256 .bf16) : FVec F S256x1024 .f32 :=
  concatenate S256x1024 1
    [⟨S256x128, headV Q K V 0 0 slices_S256x1024_o0_0_S256x128 slices_S1024x256_o0_0_S1024x128⟩,
     ⟨S256x128, headV Q K V 128 0 slices_S256x1024_o0_128_S256x128 slices_S1024x256_o0_0_S1024x128⟩,
     ⟨S256x128, headV Q K V 256 0 slices_S256x1024_o0_256_S256x128 slices_S1024x256_o0_0_S1024x128⟩,
     ⟨S256x128, headV Q K V 384 0 slices_S256x1024_o0_384_S256x128 slices_S1024x256_o0_0_S1024x128⟩,
     ⟨S256x128, headV Q K V 512 128 slices_S256x1024_o0_512_S256x128 slices_S1024x256_o0_128_S1024x128⟩,
     ⟨S256x128, headV Q K V 640 128 slices_S256x1024_o0_640_S256x128 slices_S1024x256_o0_128_S1024x128⟩,
     ⟨S256x128, headV Q K V 768 128 slices_S256x1024_o0_768_S256x128 slices_S1024x256_o0_128_S1024x128⟩,
     ⟨S256x128, headV Q K V 896 128 slices_S256x1024_o0_896_S256x128 slices_S1024x256_o0_128_S1024x128⟩]
    concatenates_S256x128_S256x128_S256x128_S256x128_S256x128_S256x128_S256x128_S256x128_S256x1024_d1

/-- The group's product is the heads' rows times the output weights. -/
theorem grp_eq (x : Vec F S256x1024 .f32) (wq : Vec F S1024x1024 .bf16) (k v : Vec F S1x1024x256 .f32) (wo : Vec F S1024x1024 .bf16) :
    grp x wq k v wo = shapeCast S4x64x1024 (matmul dot_S256x1024_S1024x1024_S256x1024_1_0_0_1_n_n none
      (truncf .bf16 (rowV (k0_pay4 x wq) (k0_pay5 k) (k0_pay6 v)) bitsLt_bf16_f32) wo (constant S256x1024 .f32 0x00000000#32))
      shapeCasts_S256x1024_S4x64x1024 := rfl

end Head

/-- A head at row `r` and column `d`. -/
theorem headV_apply (Q : Vec Ideal S256x1024 .f32) (K V : Vec Ideal S1024x256 .bf16) (a b : ℕ)
    (hq : S256x1024.Slices ![0, a] S256x128) (hk : S1024x256.Slices ![0, b] S1024x128) (ha : a + 128 ≤ 1024) (hb : b + 128 ≤ 256)
    (r : Fin 256) (d : Fin 128) :
    headV Q K V a b hq hk (ix2 r d)
      = mean (scores (fun e => Q (ix2 r ⟨a + e.val, by omega⟩)) fun j e => K (ix2 j ⟨b + e.val, by omega⟩)) fun j => V (ix2 j ⟨b + d.val, by omega⟩) := by
  unfold headV mean wt top scores scl
  pointwise
  simp only [inf_bits]

/-- A choice of which both branches are one value. -/
theorem dite_both {p : Prop} [Decidable p] {α : Type} {x : p → α} {y : ¬ p → α} {z : α} (hx : ∀ h, x h = z) (hy : ∀ h, y h = z) :
    dite p x y = z := by
  by_cases h : p
  · rw [dif_pos h]; exact hx h
  · rw [dif_neg h]; exact hy h

/-- The heads' row `r` at column `c`, from the queries and the cache. -/
def rowAt (Q : Vec Ideal S256x1024 .f32) (K V : Vec Ideal S1024x256 .bf16) (r : Fin 256) (c : Fin 1024) : EReal :=
  mean (scores (fun e => Q (ix2 r ⟨128 * (c.val / 128) + e.val, by omega⟩)) fun j e => K (ix2 j ⟨128 * (c.val / 512) + e.val, by omega⟩))
    fun j => V (ix2 j ⟨128 * (c.val / 512) + c.val % 128, by omega⟩)

theorem head_at (Q : Vec Ideal S256x1024 .f32) (K V : Vec Ideal S1024x256 .bf16) (r : Fin 256) (c : Fin 1024) (a b : ℕ)
    (hq : S256x1024.Slices ![0, a] S256x128) (hk : S1024x256.Slices ![0, b] S1024x128) (d : Fin 128)
    (ha : a = 128 * (c.val / 128)) (hb : b = 128 * (c.val / 512)) (hd : d.val = c.val % 128) :
    headV Q K V a b hq hk (ix2 r d) = rowAt Q K V r c := by
  obtain rfl : d = ⟨c.val % 128, Nat.mod_lt _ (by decide)⟩ := Fin.ext hd
  subst ha hb
  exact headV_apply Q K V _ _ hq hk (by omega) (by omega) r _

theorem rowV_apply (Q : Vec Ideal S256x1024 .f32) (K V : Vec Ideal S1024x256 .bf16) (r : Fin 256) (c : Fin 1024) :
    rowV Q K V (ix2 r c) = rowAt Q K V r c := by
  unfold rowV
  pointwise
  iterate 7
    refine dite_both (fun h => head_at Q K V r c _ _ _ _ _ (by omega) (by omega) (by dsimp only; omega)) fun h => ?_
  exact head_at Q K V r c _ _ _ _ _ (by omega) (by omega) (by dsimp only; omega)

/-- The group's product at request `b`, row `i` and column `n`. -/
theorem grp_apply (x : Vec Ideal S256x1024 .f32) (wq : Vec Ideal S1024x1024 .bf16) (k v : Vec Ideal S1x1024x256 .f32)
    (wo : Vec Ideal S1024x1024 .bf16) (b : Fin 4) (i : Fin 64) (n : Fin 1024) :
    grp x wq k v wo (ix3 b i n)
      = ∑ c, rowAt (k0_pay4 x wq) (k0_pay5 k) (k0_pay6 v) ⟨b.val * 64 + i.val, by omega⟩ c * wo (ix2 c n) := by
  rw [grp_eq]
  pointwise
  simp only [rowV_apply]

theorem q_apply (x : Vec Ideal S256x1024 .f32) (wq : Vec Ideal S1024x1024 .bf16) (r : Fin 256) (c : Fin 1024) :
    k0_pay4 x wq (ix2 r c) = ∑ k, x (ix2 r k) * wq (ix2 k c) := by
  pointwise [k0_pay4]

theorem k_apply (k : Vec Ideal S1x1024x256 .f32) (j : Fin 1024) (c : Fin 256) : k0_pay5 k (ix2 j c) = k (ix3 0 j c) := by
  pointwise [k0_pay5]

theorem v_apply (k : Vec Ideal S1x1024x256 .f32) (j : Fin 1024) (c : Fin 256) : k0_pay6 k (ix2 j c) = k (ix3 0 j c) := by
  pointwise [k0_pay6]

/-! ## The exchanges: sums over the devices -/

section Sums
variable (m : (ℓ : Loc nD τ sig) → Buf (Elt Ideal) ℓ) (c : Dev nD) (b : Fin 4) (i : Fin 64) (n : Fin 1024)

theorem S0_apply : S0 m c (ix3 b i n) = P m c (wF c) (ix3 b i n) := by pointwise [S0, sqz4, k0_pay20]
theorem A1_apply : A1 m c (ix3 b i n) = P m c (wF c + 3) (ix3 b i n) + S0 m (wl c) (ix3 b i n) := by pointwise [A1, uns4, k0_pay37]
theorem S1_apply : S1 m c (ix3 b i n) = A1 m c (ix3 b i n) := by pointwise [S1, sqz4, k0_pay39, k0_pay38]
theorem A2_apply : A2 m c (ix3 b i n) = P m c (wF c + 2) (ix3 b i n) + S1 m (wl c) (ix3 b i n) := by pointwise [A2, uns4, k0_pay57, k0_pay56]
theorem S2_apply : S2 m c (ix3 b i n) = A2 m c (ix3 b i n) := by pointwise [S2, sqz4, k0_pay58]
theorem A3_apply : A3 m c (ix3 b i n) = P m c (wF c + 1) (ix3 b i n) + S2 m (wl c) (ix3 b i n) := by pointwise [A3, uns4, k0_pay78]
theorem T0_apply : T0 m c (ix3 b i n) = A3 m c (ix3 b i n) := by pointwise [T0, k0_pay79]
theorem B1_apply : B1 m c (ix3 b i n) = A3 m c (ix3 b i n) + T0 m (pA c) (ix3 b i n) := by pointwise [B1, k0_pay80]
theorem T1_apply : T1 m c (ix3 b i n) = B1 m c (ix3 b i n) := by pointwise [T1, k0_pay81]
theorem B2_apply : B2 m c (ix3 b i n) = B1 m c (ix3 b i n) + T1 m (pB c) (ix3 b i n) := by pointwise [B2, k0_pay82]

/-- The four devices of a row, from `c` leftwards. -/
def rowOf (c : Dev nD) : List (Dev nD) := [c, wl c, wl (wl c), wl (wl (wl c))]

/-- After the first exchange a device holds its row's sum of the batch group next to its place. -/
theorem A3_row (g : Fin 4) (hg : g = wF c + 1) : A3 m c (ix3 b i n) = ((rowOf c).map fun d => P m d g (ix3 b i n)).sum := by
  have h1 : wF (wl c) + 2 = g := by rw [hg]; exact (by decide : ∀ c : Dev nD, wF (wl c) + 2 = wF c + 1) c
  have h2 : wF (wl (wl c)) + 3 = g := by rw [hg]; exact (by decide : ∀ c : Dev nD, wF (wl (wl c)) + 3 = wF c + 1) c
  have h3 : wF (wl (wl (wl c))) = g := by rw [hg]; exact (by decide : ∀ c : Dev nD, wF (wl (wl (wl c))) = wF c + 1) c
  rw [A3_apply, S2_apply, A2_apply, S1_apply, A1_apply, S0_apply, h1, h2, h3, ← hg]
  simp only [rowOf, List.map_cons, List.map_nil, List.sum_cons, List.sum_nil, add_zero]

/-- The four rows hold every device once. -/
theorem rows_perm : ∀ c : Dev nD,
    (rowOf c ++ rowOf (pA c) ++ (rowOf (pB c) ++ rowOf (pA (pB c)))).Perm (List.finRange 16) := by decide

/-- After the second it holds the sum over all devices. -/
theorem B2_sum : B2 m c (ix3 b i n) = ∑ d : Dev nD, P m d (wF c + 1) (ix3 b i n) := by
  have hA : wF c + 1 = wF (pA c) + 1 := (by decide : ∀ c : Dev nD, wF c + 1 = wF (pA c) + 1) c
  have hB : wF c + 1 = wF (pB c) + 1 := (by decide : ∀ c : Dev nD, wF c + 1 = wF (pB c) + 1) c
  have hC : wF c + 1 = wF (pA (pB c)) + 1 := (by decide : ∀ c : Dev nD, wF c + 1 = wF (pA (pB c)) + 1) c
  rw [B2_apply, T1_apply, B1_apply, B1_apply, T0_apply, T0_apply, A3_row m c b i n _ rfl, A3_row m _ b i n _ hA, A3_row m _ b i n _ hB,
    A3_row m _ b i n _ hC]
  simp only [← List.sum_append, ← List.map_append]
  rw [((rows_perm c).map _).sum_eq]
  exact (Fin.sum_univ_def _).symm

theorem R0_apply (b : Fin 2) : R0 m c (ix3 b i n) = B2 m c (ix3 (hl 0 b) i n) := by pointwise [R0, k0_pay84, k0_pay83, half]
theorem L0_apply (b : Fin 2) : L0 m c (ix3 b i n) = B2 m c (ix3 (hl 1 b) i n) := by pointwise [L0, k0_pay85, half]
theorem uns2_apply (X : Vec Ideal S2x64x1024 .bf16) (b : Fin 2) : uns2 X (ix4 0 b i n) = X (ix3 b i n) := by pointwise [uns2]
theorem glue_apply (r l : Vec Ideal S2x64x1024 .bf16) :
    glue r l (ix3 b i n) = if hi b = 0 then r (ix3 (lo b) i n) else l (ix3 (lo b) i n) := by
  unfold glue
  pointwise [k0_pay86, k0_pay87]
  simp only [uns2_apply]

theorem glue_B2 : glue (R0 m c) (L0 m c) (ix3 b i n) = B2 m c (ix3 b i n) := by
  rw [glue_apply]
  have h : ∀ b : Fin 4, hl (hi b) (lo b) = b := by decide
  have h1 : ∀ b : Fin 4, ¬ hi b = 0 → hi b = 1 := by decide
  by_cases e : hi b = 0
  · rw [if_pos e, R0_apply, ← e, h]
  · rw [if_neg e, L0_apply, ← h1 b e, h]

/-- The third leaves every batch group's sum over all devices on every device. -/
theorem outG_sum (δ : Fin 4) : outG m c δ (ix3 b i n) = ∑ d : Dev nD, P m d (wF c + δ) (ix3 b i n) := by
  have h0 : wF (wl c) + 1 = wF c + 0 := (by decide : ∀ c : Dev nD, wF (wl c) + 1 = wF c + 0) c
  have h2 : wF (wr c) + 1 = wF c + 2 := (by decide : ∀ c : Dev nD, wF (wr c) + 1 = wF c + 2) c
  have h3 : wF (wl (wl c)) + 1 = wF c + 3 := (by decide : ∀ c : Dev nD, wF (wl (wl c)) + 1 = wF c + 3) c
  match δ with
  | 0 => rw [← h0, ← B2_sum]; exact glue_B2 m _ b i n
  | 1 => exact B2_sum m c b i n
  | 2 => rw [← h2, ← B2_sum]; exact glue_B2 m _ b i n
  | 3 => rw [← h3, ← B2_sum]; exact glue_B2 m _ b i n

theorem outAt_sum (j : Fin 16) : outAt m c (ix3 j i n) = ∑ d : Dev nD, P m d (gq j) (ix3 (gr j) i n) := by
  have e : wF c + (gq j - wF c) = gq j := by abel
  have h := outG_sum m c (gr j) i n (gq j - wF c)
  rw [e] at h
  exact h

/-! ## The staged arguments -/

theorem off1_eq : ∀ (c : Dev nD) (a : Fin 3), k0_off1 c a = (![0, 0, 256 * c.val] : Fin 3 → ℕ) a := by decide +kernel

/-- The staged operands and the copied cache, as the arguments hold them. -/
theorem xv_apply (r k : Fin 1024) : xv m c (ix2 r k) = m ((c : Thread nD τ).loc main_arg0) (ix2 r k) := by
  refine congrArg (m ((c : Thread nD τ).loc main_arg0)) (funext fun a => Fin.ext ?_)
  fin_cases a
  · show 0 * 1024 + 1 * r.val = r.val
    omega
  · show 0 * 1024 + 1 * k.val = k.val
    omega
theorem qv_apply (r k : Fin 1024) : qv m c (ix2 r k) = m ((c : Thread nD τ).loc main_arg1) (ix2 r k) := by
  refine congrArg (m ((c : Thread nD τ).loc main_arg1)) (funext fun a => Fin.ext ?_)
  fin_cases a
  · show 0 * 1024 + 1 * r.val = r.val
    omega
  · show 0 * 1024 + 1 * k.val = k.val
    omega
theorem pv_apply (r k : Fin 1024) : pv m c (ix2 r k) = m ((c : Thread nD τ).loc main_arg2) (ix2 r k) := by
  refine congrArg (m ((c : Thread nD τ).loc main_arg2)) (funext fun a => Fin.ext ?_)
  fin_cases a
  · show 0 * 1024 + 1 * r.val = r.val
    omega
  · show 0 * 1024 + 1 * k.val = k.val
    omega

theorem kv_apply (g : Fin 4) (j : Fin 1024) (e : Fin 256) :
    kv m c (ix3 g j e) = m ((c : Thread nD τ).loc main_arg3) (ix3 g j ⟨256 * c.val + e.val, by have h : c.val < 16 := c.isLt; omega⟩) := by
  refine congrArg (m ((c : Thread nD τ).loc main_arg3)) (funext fun a => Fin.ext ?_)
  have h := off1_eq c
  fin_cases a
  · show k0_off1 c 0 + 1 * g.val = g.val
    rw [h]; simp
  · show k0_off1 c 1 + 1 * j.val = j.val
    rw [h]; simp
  · show k0_off1 c 2 + 1 * e.val = 256 * c.val + e.val
    rw [h]; simp
theorem vv_apply (g : Fin 4) (j : Fin 1024) (e : Fin 256) :
    vv m c (ix3 g j e) = m ((c : Thread nD τ).loc main_arg4) (ix3 g j ⟨256 * c.val + e.val, by have h : c.val < 16 := c.isLt; omega⟩) := by
  refine congrArg (m ((c : Thread nD τ).loc main_arg4)) (funext fun a => Fin.ext ?_)
  have h := off1_eq c
  fin_cases a
  · show k0_off1 c 0 + 1 * g.val = g.val
    rw [h]; simp
  · show k0_off1 c 1 + 1 * j.val = j.val
    rw [h]; simp
  · show k0_off1 c 2 + 1 * e.val = 256 * c.val + e.val
    rw [h]; simp

theorem wqv_apply (r k : Fin 1024) : wqv m c (ix2 r k) = qv m c (ix2 r k) := by pointwise [wqv, k0_pay2, k0_pay1]
theorem wov_apply (r k : Fin 1024) : wov m c (ix2 r k) = pv m c (ix2 r k) := by pointwise [wov, k0_pay3]

theorem xg_apply (g : Fin 4) (r : Fin 256) (k : Fin 1024) : xg m c g (ix2 r k) = xv m c (ix2 ⟨256 * g.val + r.val, by omega⟩ k) := by
  refine congrArg (xv m c) (funext fun a => Fin.ext ?_)
  fin_cases a
  · show 256 * g.val + 1 * r.val = 256 * g.val + r.val
    omega
  · show 0 + 1 * k.val = k.val
    omega
theorem rk_emb (g : Fin 4) (j : Fin 1024) (e : Fin 256) : (rk g).emb (ix3 0 j e) = ix3 g j e := by
  refine funext fun a => Fin.ext ?_
  fin_cases a
  · show g.val + 1 * 0 = g.val
    omega
  · show 0 + 1 * j.val = j.val
    omega
  · show 0 + 1 * e.val = e.val
    omega
theorem kg_apply (g : Fin 4) (j : Fin 1024) (e : Fin 256) : kg m c g (ix3 0 j e) = kv m c (ix3 g j e) := congrArg (kv m c) (rk_emb g j e)
theorem vg_apply (g : Fin 4) (j : Fin 1024) (e : Fin 256) : vg m c g (ix3 0 j e) = vv m c (ix3 g j e) := congrArg (vv m c) (rk_emb g j e)

end Sums

/-! ## The mathematics of the whole, from the whole arguments -/

section Whole
variable (X : Fin 1024 → Fin 1024 → EReal) (Wq : Fin 1024 → Fin 16384 → EReal) (Wo : Fin 16384 → Fin 1024 → EReal)
  (K V : Fin 4 → Fin 1024 → Fin 4096 → EReal)

/-- The queries; -/
def qAt (r : Fin 1024) (c : Fin 16384) : EReal := ∑ k, X r k * Wq k c
/-- row `r` of the heads' results at column `k`: four heads read one head of keys and values; -/
def hcol (r : Fin 1024) (k : Fin 16384) : EReal :=
  mean (scores (fun e => qAt X Wq r ⟨128 * (k.val / 128) + e.val, by omega⟩)
      fun j e => K ⟨r.val / 256, by omega⟩ j ⟨128 * (k.val / 512) + e.val, by omega⟩)
    fun j => V ⟨r.val / 256, by omega⟩ j ⟨128 * (k.val / 512) + k.val % 128, by omega⟩
/-- the result. -/
def whole (b : Fin 16) (i : Fin 64) (n : Fin 1024) : EReal :=
  ∑ k, hcol X Wq K V ⟨64 * b.val + i.val, by omega⟩ k * Wo k n

variable (m : (ℓ : Loc nD τ sig) → Buf (Elt Ideal) ℓ)

set_option backward.proofsInPublic true in
/-- Every device holds the rows and the cache whole, and its columns and rows of the weights. -/
structure Placed : Prop where
  x : ∀ (c : Dev nD) r k, m ((c : Thread nD τ).loc main_arg0) (ix2 r k) = X r k
  q : ∀ (c : Dev nD) r (k : Fin 1024), m ((c : Thread nD τ).loc main_arg1) (ix2 r k)
    = Wq r ⟨1024 * c.val + k.val, by have h : c.val < 16 := c.isLt; omega⟩
  o : ∀ (c : Dev nD) (k : Fin 1024) n, m ((c : Thread nD τ).loc main_arg2) (ix2 k n)
    = Wo ⟨1024 * c.val + k.val, by have h : c.val < 16 := c.isLt; omega⟩ n
  k : ∀ (c : Dev nD) b j e, m ((c : Thread nD τ).loc main_arg3) (ix3 b j e) = K b j e
  v : ∀ (c : Dev nD) b j e, m ((c : Thread nD τ).loc main_arg4) (ix3 b j e) = V b j e

variable {X Wq Wo K V m}

/-- One device's row of heads is its stretch of the whole row. -/
theorem row_whole (h : Placed X Wq Wo K V m) (c : Dev nD) (g : Fin 4) (r : Fin 256) (k : Fin 1024) (R : Fin 1024) (C : Fin 16384)
    (hR : R.val = 256 * g.val + r.val) (hC : C.val = 1024 * c.val + k.val) :
    rowAt (k0_pay4 (xg m c g) (wqv m c)) (k0_pay5 (kg m c g)) (k0_pay6 (vg m c g)) r k = hcol X Wq K V R C := by
  have hc : c.val < 16 := c.isLt
  have eg : g = ⟨R.val / 256, by omega⟩ := Fin.ext (by dsimp only; omega)
  unfold rowAt hcol qAt
  simp only [q_apply, k_apply, v_apply, xg_apply, xv_apply, wqv_apply, qv_apply, kg_apply, kv_apply, vg_apply, vv_apply, h.x, h.q, h.k, h.v]
  refine congrArg₂ mean (congrArg₂ scores (funext fun e => Finset.sum_congr rfl fun t _ => congrArg₂ (· * ·) ?_ ?_)
    (funext fun j => funext fun e => ?_)) (funext fun j => ?_)
  · exact congrArg (X · t) (Fin.ext hR.symm)
  · exact congrArg (Wq t) (Fin.ext (by dsimp only; omega))
  · rw [← eg]; exact congrArg (K g j) (Fin.ext (by dsimp only; omega))
  · rw [← eg]; exact congrArg (V g j) (Fin.ext (by dsimp only; omega))

/-- The devices' products add up to the whole. -/
theorem P_sum (h : Placed X Wq Wo K V m) (j : Fin 16) (i : Fin 64) (n : Fin 1024) :
    ∑ d : Dev nD, P m d (gq j) (ix3 (gr j) i n) = whole X Wq Wo K V j i n := by
  unfold whole
  rw [← (finProdFinEquiv (m := 16) (n := 1024)).sum_comp, Fintype.sum_prod_type]
  refine Finset.sum_congr rfl fun d _ => ?_
  unfold P
  rw [grp_apply]
  refine Finset.sum_congr rfl fun k _ => congrArg₂ (· * ·) ?_ ?_
  · exact row_whole h d _ _ _ _ _ (by simp only [gq, gr]; omega) (by simp [finProdFinEquiv]; omega)
  · rw [wov_apply, pv_apply, h.o]
    exact congrArg (Wo · n) (Fin.ext (by simp [finProdFinEquiv]; omega))

/-- Every device's result is the whole. -/
theorem outAt_whole (h : Placed X Wq Wo K V m) (c : Dev nD) (j : Fin 16) (i : Fin 64) (n : Fin 1024) :
    outAt m c (ix3 j i n) = whole X Wq Wo K V j i n := (outAt_sum m c i n j).trans (P_sum h j i n)

end Whole

end Cert.Mesh

end
-- ==== Proof.RefValue.lean ====
/- The reference's result, read at an index over the extended reals. -/
module

public import proofs.«01_k».proof.Proof.Value
public import proofs.«01_k».proof.Proof.Gen.ReferenceIdeal.Run

@[expose] public section

set_option maxRecDepth 16384

noncomputable section

namespace Cert.Mesh.Ref

open Cert.ReferenceIdeal Cert.ReferenceIdeal.Gen
open Idealize.ShloMosaic Idealize.ShloMosaic.TcCoe
open scoped BigOperators

/-! ## The reference's stages -/

section Stages
variable {F : FTy → Type} [FloatOps F]

/-- The queries, by request, row, head and place. -/
def rQ (x : FVec F S1024x1024 .f32) (wq : FVec F S1024x16384 .f32) : FVec F S4x256x128x128 .f32 :=
  shapeCast S4x256x128x128 (Host.dotGeneral dot_S4x256x1024_S1024x16384_S4x256x16384_2_0_01_1_n_n none
    (shapeCast S4x256x1024 x shapeCasts_S1024x1024_S4x256x1024) wq) shapeCasts_S4x256x16384_S4x256x128x128
/-- Keys or values, every head four times. -/
def rKV (a : FVec F S4x1024x4096 .f32) : FVec F S4x1024x128x128 .f32 :=
  shapeCast S4x1024x128x128 (broadcastInDim S4x1024x32x4x128 ![0, 1, 2, 4] bcast_S4x1024x32x128_S4x1024x32x4x128_0_1_2_4
    (shapeCast S4x1024x32x128 a shapeCasts_S4x1024x4096_S4x1024x32x128)) shapeCasts_S4x1024x32x4x128_S4x1024x128x128
/-- The scores. -/
def rS (q : FVec F S4x256x128x128 .f32) (k : FVec F S4x1024x128x128 .f32) : FVec F S4x128x256x1024 .f32 :=
  mulf (Host.dotGeneral dot_S4x256x128x128_S4x1024x128x128_S4x128x256x1024_3_3_1_1_02_02 none q k)
    (broadcastInDim S4x128x256x1024 ![] bcast_S_S4x128x256x1024 (constant S_ .f32 0x3DB504F3#32))
/-- The running maximum's start, and the maximum. -/
def rB : FVec F S4x128x256x1 .f32 := broadcastInDim S4x128x256x1 ![] bcast_S_S4x128x256x1 (constant S_ .f32 0xFF800000#32)
def rX (s : FVec F S4x128x256x1024 .f32) : FVec F S4x128x256 .f32 :=
  Host.reduce FloatOps.maximumf s (constant S_ .f32 0xFF800000#32) reducesTo_S4x128x256x1024_S4x128x256_d3 h_S_
def rM (s : FVec F S4x128x256x1024 .f32) : FVec F S4x128x256x1 .f32 :=
  maximumf rB (broadcastInDim S4x128x256x1 ![0, 1, 2] bcast_S4x128x256_S4x128x256x1_0_1_2 (rX s))
/-- The factor on what came before. -/
def rA (s : FVec F S4x128x256x1024 .f32) : FVec F S4x128x256x1 .f32 := Host.exp (subf rB (rM s))
/-- The weights, -/
def rP (s : FVec F S4x128x256x1024 .f32) : FVec F S4x128x256x1024 .f32 :=
  Host.exp (subf s (broadcastInDim S4x128x256x1024 ![0, 1, 2, 3] bcast_S4x128x256x1_S4x128x256x1024_0_1_2_3 (rM s)))
/-- their sum, -/
def rL (s : FVec F S4x128x256x1024 .f32) : FVec F S4x128x256x1 .f32 :=
  addf (mulf (broadcastInDim S4x128x256x1 ![] bcast_S_S4x128x256x1 (constant S_ .f32 0x00000000#32)) (rA s))
    (broadcastInDim S4x128x256x1 ![0, 1, 2] bcast_S4x128x256_S4x128x256x1_0_1_2
      (Host.reduceAdd (rP s) (constant S_ .f32 0x00000000#32) reducesTo_S4x128x256x1024_S4x128x256_d3 h_S_))
/-- the weighted values. -/
def rO (s : FVec F S4x128x256x1024 .f32) (v : FVec F S4x1024x128x128 .f32) : FVec F S4x256x128x128 .f32 :=
  addf (mulf (broadcastInDim S4x256x128x128 ![] bcast_S_S4x256x128x128 (constant S_ .f32 0x00000000#32))
      (broadcastInDim S4x256x128x128 ![0, 1, 2, 3] bcast_S4x256x128x1_S4x256x128x128_0_1_2_3
        (transpose S4x256x128x1 [0, 2, 1, 3] (rA s) transposes_S4x128x256x1_S4x256x128x1_0_2_1_3)))
    (transpose S4x256x128x128 [0, 3, 1, 2] (Host.dotGeneral dot_S4x1024x128x128_S4x128x256x1024_S4x128x128x256_1_3_3_2_02_01 none v (rP s))
      transposes_S4x128x128x256_S4x256x128x128_0_3_1_2)
/-- The heads' results, -/
def rH (s : FVec F S4x128x256x1024 .f32) (v : FVec F S4x1024x128x128 .f32) : FVec F S4x256x128x128 .f32 :=
  Host.divf (rO s v) (broadcastInDim S4x256x128x128 ![0, 1, 2, 3] bcast_S4x256x128x1_S4x256x128x128_0_1_2_3
    (transpose S4x256x128x1 [0, 2, 1, 3] (rL s) transposes_S4x128x256x1_S4x256x128x1_0_2_1_3))
/-- and the result. -/
def rR (h : FVec F S4x256x128x128 .f32) (wo : FVec F S16384x1024 .f32) : FVec F S16x64x1024 .f32 :=
  shapeCast S16x64x1024 (Host.dotGeneral dot_S4x256x16384_S16384x1024_S4x256x1024_2_0_01_1_n_n none
    (shapeCast S4x256x16384 h shapeCasts_S4x256x128x128_S4x256x16384) wo) shapeCasts_S4x256x1024_S16x64x1024

theorem res_eq (m : (ℓ : Loc nD τ sig) → Buf (Elt F) ℓ) (c : Dev nD) :
    Cert.ReferenceIdeal.Value.res_main_v38 m c
      = rR (rH (rS (rQ (m ((c.tc : Thread nD τ).loc main_arg0)) (m ((c.tc : Thread nD τ).loc main_arg1))) (rKV (m ((c.tc : Thread nD τ).loc main_arg3))))
          (rKV (m ((c.tc : Thread nD τ).loc main_arg4)))) (m ((c.tc : Thread nD τ).loc main_arg2)) := rfl

end Stages

/-! ## Their entries -/

theorem rQ_apply (x : FVec Ideal S1024x1024 .f32) (wq : FVec Ideal S1024x16384 .f32) (b : Fin 4) (i : Fin 256) (h e : Fin 128) :
    rQ x wq (ix4 b i h e) = ∑ k, x (ix2 ⟨b.val * 256 + i.val, by omega⟩ k) * wq (ix2 k ⟨h.val * 128 + e.val, by omega⟩) := by
  pointwise [rQ]

theorem rKV_apply (a : FVec Ideal S4x1024x4096 .f32) (b : Fin 4) (j : Fin 1024) (h e : Fin 128) :
    rKV a (ix4 b j h e) = a (ix3 b j ⟨h.val / 4 * 128 + e.val, by omega⟩) := by
  pointwise [rKV]

theorem rS_apply (q : FVec Ideal S4x256x128x128 .f32) (k : FVec Ideal S4x1024x128x128 .f32) (b : Fin 4) (h : Fin 128) (i : Fin 256) (j : Fin 1024) :
    rS q k (ix4 b h i j) = scores (fun e => q (ix4 b i h e)) (fun j e => k (ix4 b j h e)) j := by
  unfold scores scl
  pointwise [rS]

theorem rX_apply (s : FVec Ideal S4x128x256x1024 .f32) (b : Fin 4) (h : Fin 128) (i : Fin 256) :
    rX s (ix3 b h i) = top fun j => s (ix4 b h i j) := by
  have R : S4x128x256x1024.Reduces [3] S4x128x256 := by decide
  have e : s ∘ R.lift (ix3 b h i) = fun j : Fin 1024 => s (ix4 b h i j) := by
    refine funext fun j => congrArg s (funext fun a => Fin.ext ?_)
    rw [R.lift_val]
    fin_cases a <;> rfl
  unfold rX top
  refine (Host.reduce_eq_fold_single (FloatOps.maximumf (F := Ideal) (φ := .f32)) s _ reducesTo_S4x128x256x1024_S4x128x256_d3 R h_S_ (ix3 b h i)).trans ?_
  rw [e, show (constant (F := Ideal) S_ .f32 0xFF800000#32 (Shape.Idx.first h_S_) : EReal) = ⊥ from inf_bits]
  rfl

theorem rB_apply (b : Fin 4) (h : Fin 128) (i : Fin 256) : rB (F := Ideal) (ix4 b h i 0) = ⊥ := by
  pointwise [rB]
  exact inf_bits

theorem bcast_apply (y : FVec Ideal S4x128x256 .f32) (b : Fin 4) (h : Fin 128) (i : Fin 256) :
    broadcastInDim S4x128x256x1 ![0, 1, 2] bcast_S4x128x256_S4x128x256x1_0_1_2 y (ix4 b h i 0) = y (ix3 b h i) := by pointwise

theorem max_apply (x y : FVec Ideal S4x128x256x1 .f32) (j : S4x128x256x1.Idx) : maximumf x y j = max (x j) (y j) := rfl

theorem rM_apply (s : FVec Ideal S4x128x256x1024 .f32) (b : Fin 4) (h : Fin 128) (i : Fin 256) :
    rM s (ix4 b h i 0) = top fun j => s (ix4 b h i j) := by
  unfold rM
  rw [max_apply, bcast_apply, rB_apply, rX_apply]
  exact max_eq_right bot_le

theorem rP_apply (s : FVec Ideal S4x128x256x1024 .f32) (b : Fin 4) (h : Fin 128) (i : Fin 256) (j : Fin 1024) :
    rP s (ix4 b h i j) = wt (fun j => s (ix4 b h i j)) j := by
  unfold wt
  pointwise [rP]
  rw [rM_apply]

theorem rL_apply (s : FVec Ideal S4x128x256x1024 .f32) (b : Fin 4) (h : Fin 128) (i : Fin 256) :
    rL s (ix4 b h i 0) = ∑ j, wt (fun j => s (ix4 b h i j)) j := by
  pointwise [rL]
  rw [zero_mul, zero_add]
  exact Finset.sum_congr rfl fun j _ => rP_apply s b h i j

theorem rO_apply (s : FVec Ideal S4x128x256x1024 .f32) (v : FVec Ideal S4x1024x128x128 .f32) (b : Fin 4) (i : Fin 256) (h e : Fin 128) :
    rO s v (ix4 b i h e) = ∑ j, wt (fun j => s (ix4 b h i j)) j * v (ix4 b j h e) := by
  pointwise [rO]
  rw [zero_mul, zero_add]
  exact Finset.sum_congr rfl fun j _ => (mul_comm _ _).trans (congrArg (· * _) (rP_apply s b h i j))

theorem rH_apply (s : FVec Ideal S4x128x256x1024 .f32) (v : FVec Ideal S4x1024x128x128 .f32) (b : Fin 4) (i : Fin 256) (h e : Fin 128) :
    rH s v (ix4 b i h e) = mean (fun j => s (ix4 b h i j)) fun j => v (ix4 b j h e) := by
  unfold mean
  pointwise [rH]
  rw [rO_apply, rL_apply]

theorem rR_apply (h : FVec Ideal S4x256x128x128 .f32) (wo : FVec Ideal S16384x1024 .f32) (b : Fin 16) (i : Fin 64) (n : Fin 1024) :
    rR h wo (ix3 b i n) = ∑ k : Fin 16384, h (ix4 ⟨b.val / 4, by omega⟩ ⟨b.val % 4 * 64 + i.val, by omega⟩ ⟨k.val / 128, by omega⟩ ⟨k.val % 128, by omega⟩) * wo (ix2 k n) := by
  pointwise [rR]

/-- The reference's result is the whole. -/
theorem res_whole (x : FVec Ideal S1024x1024 .f32) (wq : FVec Ideal S1024x16384 .f32) (wo : FVec Ideal S16384x1024 .f32)
    (k v : FVec Ideal S4x1024x4096 .f32) (b : Fin 16) (i : Fin 64) (n : Fin 1024) :
    rR (rH (rS (rQ x wq) (rKV k)) (rKV v)) wo (ix3 b i n)
      = whole (fun r c => x (ix2 r c)) (fun r c => wq (ix2 r c)) (fun r c => wo (ix2 r c)) (fun g j e => k (ix3 g j e)) (fun g j e => v (ix3 g j e)) b i n := by
  rw [rR_apply]
  unfold whole hcol qAt
  refine Finset.sum_congr rfl fun t _ => congrArg (· * _) ?_
  have eg : (⟨b.val / 4, by omega⟩ : Fin 4) = ⟨(64 * b.val + i.val) / 256, by omega⟩ := Fin.ext (by dsimp only; omega)
  rw [rH_apply]
  simp only [rS_apply, rQ_apply, rKV_apply]
  refine congrArg₂ mean (congrArg₂ scores (funext fun e => Finset.sum_congr rfl fun z _ => congrArg₂ (· * ·) ?_ ?_)
    (funext fun j => funext fun e => ?_)) (funext fun j => ?_)
  · exact congrArg (fun r => x (ix2 r z)) (Fin.ext (by dsimp only; omega))
  · exact congrArg (fun r => wq (ix2 z r)) (Fin.ext (by dsimp only; omega))
  · rw [eg]; exact congrArg (fun r => k (ix3 _ j r)) (Fin.ext (by dsimp only; omega))
  · rw [eg]; exact congrArg (fun r => v (ix3 _ j r)) (Fin.ext (by dsimp only; omega))

end Cert.Mesh.Ref

end
-- ==== Proof.Same.lean ====
/- The kernel's result on every device is the reference's. -/
module

public import proofs.«01_k».proof.Proof.Frames
public import proofs.«01_k».proof.Proof.RefValue
public import Idealize.ShloMosaic.Lib.Layout

@[expose] public section

set_option maxRecDepth 16384

noncomputable section

namespace Cert.Mesh

open Idealize.ShloMosaic Idealize.ShloMosaic.TcCoe Idealize.SL.Sem

/-- A column block of the query weights and a row block of the output weights, at an index. -/
theorem cols_apply (w : (⟨2, ![1024, 16384]⟩ : Shape).Idx → EReal) (c : Fin 16) (r k : Fin 1024) :
    Layout.block ⟨2, ![1024, 1024]⟩ ⟨2, ![1024, 16384]⟩ 1 16 c w (by decide) (ix2 r k) = w (ix2 r ⟨1024 * c.val + k.val, by omega⟩) := by
  refine congrArg w (funext fun a => Fin.ext ?_)
  fin_cases a
  · rfl
  · show c.val * 1024 + k.val = 1024 * c.val + k.val
    omega
theorem rows_apply (w : (⟨2, ![16384, 1024]⟩ : Shape).Idx → EReal) (c : Fin 16) (k n : Fin 1024) :
    Layout.block ⟨2, ![1024, 1024]⟩ ⟨2, ![16384, 1024]⟩ 0 16 c w (by decide) (ix2 k n) = w (ix2 ⟨1024 * c.val + k.val, by omega⟩ n) := by
  refine congrArg w (funext fun a => Fin.ext ?_)
  fin_cases a
  · show c.val * 1024 + k.val = 1024 * c.val + k.val
    omega
  · rfl

/-- Over the extended reals, from arguments placed as the claim says, every device ends with the reference's result. -/
theorem algebraic : Cert.algebraic_KernelIdeal_ReferenceIdeal := by
  intro m g m' g' _ h
  refine ⟨Cert.ReferenceIdeal.Value.res_main_v38 m' 0, ?_, ?_⟩
  · refine (θ_run _ _ _).mono (fun r hr c => ⟨((hr.1 c).1).trans ?_, (hr.1 c).2⟩) (run_out (F := Ideal) m g)
    rw [Ref.res_eq]
    refine funext fun j => ?_
    obtain ⟨b, i, n, rfl⟩ : ∃ (b : Fin 16) (i : Fin 64) (n : Fin 1024), j = ix3 b i n :=
      ⟨j 0, j 1, j 2, funext fun a => by fin_cases a <;> rfl⟩
    refine (outAt_whole ⟨fun c r k => ?_, fun c r k => ?_, fun c k n => ?_, fun c b j e => ?_, fun c b j e => ?_⟩ c b i n).trans
      (Ref.res_whole _ _ _ _ _ b i n).symm
    · exact congrFun (h c).1 (ix2 r k)
    · exact (congrFun (h c).2.1 (ix2 r k)).trans (cols_apply _ c r k)
    · exact (congrFun (h c).2.2.1 (ix2 k n)).trans (rows_apply _ c k n)
    · exact congrFun (h c).2.2.2.1 (ix3 b j e)
    · exact congrFun (h c).2.2.2.2 (ix3 b j e)
  · exact (θ_run _ _ _).mono (fun r hr => hr 0) (Cert.ReferenceIdeal.Value.run (F := Ideal) m' g')

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mesh.frame_kernel, Cert.Mesh.frame_ideal, Cert.Mesh.frame_reference, trivial, Cert.Mesh.algebraic⟩

end Cert.Proof

end
